-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Logits (m : (ℓ : Loc Cert.Logits.nD Cert.Logits.τ Cert.Logits.sig) → Buf (Elt Bits) ℓ) : Prop :=
  True

def Pre_LogitsIdeal (m : (ℓ : Loc Cert.LogitsIdeal.nD Cert.LogitsIdeal.τ Cert.LogitsIdeal.sig) → Buf (Elt Ideal) ℓ) : Prop :=
  True

def Pre_LogitsReferenceIdeal (m : (ℓ : Loc Cert.LogitsReferenceIdeal.nD Cert.LogitsReferenceIdeal.τ Cert.LogitsReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Logits [hLogits : Cert.Logits.Facts] : Prop :=
  ∀ (m : (ℓ : Loc Cert.Logits.nD Cert.Logits.τ Cert.Logits.sig) → Buf (Elt Bits) ℓ) (g : Dev Cert.Logits.nD → PrngReg), Pre_Logits m →
    θ_run (Cert.Logits.defs (F := Bits)) (onTc (τ := Cert.Logits.τ) (Cert.Logits.main (F := Bits))) ⟨m, fun _ => 0, g⟩ (fun r => (∀ c : Dev Cert.Logits.nD,
      r.2.mem ((c.tc : Thread Cert.Logits.nD Cert.Logits.τ).loc Cert.Logits.main_arg0) = m ((c.tc : Thread Cert.Logits.nD Cert.Logits.τ).loc Cert.Logits.main_arg0)
      ∧ r.2.mem ((c.tc : Thread Cert.Logits.nD Cert.Logits.τ).loc Cert.Logits.main_arg1) = m ((c.tc : Thread Cert.Logits.nD Cert.Logits.τ).loc Cert.Logits.main_arg1)
      ∧ r.2.mem ((c.tc : Thread Cert.Logits.nD Cert.Logits.τ).loc Cert.Logits.main_arg2) = m ((c.tc : Thread Cert.Logits.nD Cert.Logits.τ).loc Cert.Logits.main_arg2)
      ∧ r.2.mem ((c.tc : Thread Cert.Logits.nD Cert.Logits.τ).loc Cert.Logits.main_arg3) = m ((c.tc : Thread Cert.Logits.nD Cert.Logits.τ).loc Cert.Logits.main_arg3))
      ∧ r.2.sem = fun _ => 0)

def quiescent_LogitsIdeal [hLogitsIdeal : Cert.LogitsIdeal.Facts] : Prop :=
  ∀ (m : (ℓ : Loc Cert.LogitsIdeal.nD Cert.LogitsIdeal.τ Cert.LogitsIdeal.sig) → Buf (Elt Ideal) ℓ) (g : Dev Cert.LogitsIdeal.nD → PrngReg), Pre_LogitsIdeal m →
    θ_run (Cert.LogitsIdeal.defs (F := Ideal)) (onTc (τ := Cert.LogitsIdeal.τ) (Cert.LogitsIdeal.main (F := Ideal))) ⟨m, fun _ => 0, g⟩ (fun r => (∀ c : Dev Cert.LogitsIdeal.nD,
      r.2.mem ((c.tc : Thread Cert.LogitsIdeal.nD Cert.LogitsIdeal.τ).loc Cert.LogitsIdeal.main_arg0) = m ((c.tc : Thread Cert.LogitsIdeal.nD Cert.LogitsIdeal.τ).loc Cert.LogitsIdeal.main_arg0)
      ∧ r.2.mem ((c.tc : Thread Cert.LogitsIdeal.nD Cert.LogitsIdeal.τ).loc Cert.LogitsIdeal.main_arg1) = m ((c.tc : Thread Cert.LogitsIdeal.nD Cert.LogitsIdeal.τ).loc Cert.LogitsIdeal.main_arg1)
      ∧ r.2.mem ((c.tc : Thread Cert.LogitsIdeal.nD Cert.LogitsIdeal.τ).loc Cert.LogitsIdeal.main_arg2) = m ((c.tc : Thread Cert.LogitsIdeal.nD Cert.LogitsIdeal.τ).loc Cert.LogitsIdeal.main_arg2)
      ∧ r.2.mem ((c.tc : Thread Cert.LogitsIdeal.nD Cert.LogitsIdeal.τ).loc Cert.LogitsIdeal.main_arg3) = m ((c.tc : Thread Cert.LogitsIdeal.nD Cert.LogitsIdeal.τ).loc Cert.LogitsIdeal.main_arg3))
      ∧ r.2.sem = fun _ => 0)

def quiescent_LogitsReferenceIdeal [hLogitsReferenceIdeal : Cert.LogitsReferenceIdeal.Facts] : Prop :=
  ∀ (m : (ℓ : Loc Cert.LogitsReferenceIdeal.nD Cert.LogitsReferenceIdeal.τ Cert.LogitsReferenceIdeal.sig) → Buf (Elt Ideal) ℓ) (g : Dev Cert.LogitsReferenceIdeal.nD → PrngReg), Pre_LogitsReferenceIdeal m →
    θ_run (Cert.LogitsReferenceIdeal.defs (F := Ideal)) (onTc (τ := Cert.LogitsReferenceIdeal.τ) (Cert.LogitsReferenceIdeal.main (F := Ideal))) ⟨m, fun _ => 0, g⟩ (fun r => (∀ c : Dev Cert.LogitsReferenceIdeal.nD,
      r.2.mem ((c.tc : Thread Cert.LogitsReferenceIdeal.nD Cert.LogitsReferenceIdeal.τ).loc Cert.LogitsReferenceIdeal.main_arg0) = m ((c.tc : Thread Cert.LogitsReferenceIdeal.nD Cert.LogitsReferenceIdeal.τ).loc Cert.LogitsReferenceIdeal.main_arg0)
      ∧ r.2.mem ((c.tc : Thread Cert.LogitsReferenceIdeal.nD Cert.LogitsReferenceIdeal.τ).loc Cert.LogitsReferenceIdeal.main_arg1) = m ((c.tc : Thread Cert.LogitsReferenceIdeal.nD Cert.LogitsReferenceIdeal.τ).loc Cert.LogitsReferenceIdeal.main_arg1)
      ∧ r.2.mem ((c.tc : Thread Cert.LogitsReferenceIdeal.nD Cert.LogitsReferenceIdeal.τ).loc Cert.LogitsReferenceIdeal.main_arg2) = m ((c.tc : Thread Cert.LogitsReferenceIdeal.nD Cert.LogitsReferenceIdeal.τ).loc Cert.LogitsReferenceIdeal.main_arg2)
      ∧ r.2.mem ((c.tc : Thread Cert.LogitsReferenceIdeal.nD Cert.LogitsReferenceIdeal.τ).loc Cert.LogitsReferenceIdeal.main_arg3) = m ((c.tc : Thread Cert.LogitsReferenceIdeal.nD Cert.LogitsReferenceIdeal.τ).loc Cert.LogitsReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44_0) = v0 c
          ∧ r.2.mem ((c.tc : Thread Cert.ReferenceIdeal.nD Cert.ReferenceIdeal.τ).loc Cert.ReferenceIdeal.main_v44_1) = v1 c
          ∧ r.2.mem ((c.tc : Thread Cert.ReferenceIdeal.nD Cert.ReferenceIdeal.τ).loc Cert.ReferenceIdeal.main_v44_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Logits_LogitsIdeal : Prop :=
  True

def algebraic_LogitsIdeal_LogitsReferenceIdeal [hLogitsIdeal : Cert.LogitsIdeal.Facts] [hLogitsReferenceIdeal : Cert.LogitsReferenceIdeal.Facts] : Prop :=
  ∀ (m : (ℓ : Loc Cert.LogitsIdeal.nD Cert.LogitsIdeal.τ Cert.LogitsIdeal.sig) → Buf (Elt Ideal) ℓ) (g : Dev Cert.LogitsIdeal.nD → PrngReg)
    (m' : (ℓ : Loc Cert.LogitsReferenceIdeal.nD Cert.LogitsReferenceIdeal.τ Cert.LogitsReferenceIdeal.sig) → Buf (Elt Ideal) ℓ) (g' : Dev Cert.LogitsReferenceIdeal.nD → PrngReg), Pre_LogitsIdeal m →
    (∀ c : Dev Cert.LogitsIdeal.nD,
      m' ((c.tc : Thread Cert.LogitsReferenceIdeal.nD Cert.LogitsReferenceIdeal.τ).loc Cert.LogitsReferenceIdeal.main_arg0) = m ((c.tc : Thread Cert.LogitsIdeal.nD Cert.LogitsIdeal.τ).loc Cert.LogitsIdeal.main_arg0)
      ∧ m' ((c.tc : Thread Cert.LogitsReferenceIdeal.nD Cert.LogitsReferenceIdeal.τ).loc Cert.LogitsReferenceIdeal.main_arg1) = m ((c.tc : Thread Cert.LogitsIdeal.nD Cert.LogitsIdeal.τ).loc Cert.LogitsIdeal.main_arg1)
      ∧ m' ((c.tc : Thread Cert.LogitsReferenceIdeal.nD Cert.LogitsReferenceIdeal.τ).loc Cert.LogitsReferenceIdeal.main_arg2) = m ((c.tc : Thread Cert.LogitsIdeal.nD Cert.LogitsIdeal.τ).loc Cert.LogitsIdeal.main_arg2)
      ∧ m' ((c.tc : Thread Cert.LogitsReferenceIdeal.nD Cert.LogitsReferenceIdeal.τ).loc Cert.LogitsReferenceIdeal.main_arg3) = m ((c.tc : Thread Cert.LogitsIdeal.nD Cert.LogitsIdeal.τ).loc Cert.LogitsIdeal.main_arg3)) →
    ∃ (v0 : (c : Dev Cert.LogitsIdeal.nD) → Buf (Elt Ideal) ((c.tc : Thread Cert.LogitsIdeal.nD Cert.LogitsIdeal.τ).loc Cert.LogitsIdeal.main_v0)),
      θ_run (Cert.LogitsIdeal.defs (F := Ideal)) (onTc (τ := Cert.LogitsIdeal.τ) (Cert.LogitsIdeal.main (F := Ideal))) ⟨m, fun _ => 0, g⟩ (fun r => ∀ c : Dev Cert.LogitsIdeal.nD,
          r.2.mem ((c.tc : Thread Cert.LogitsIdeal.nD Cert.LogitsIdeal.τ).loc Cert.LogitsIdeal.main_v0) = v0 c
          ∧ r.2.mem ((c.tc : Thread Cert.LogitsIdeal.nD Cert.LogitsIdeal.τ).loc Cert.LogitsIdeal.main_arg0) = m ((c.tc : Thread Cert.LogitsIdeal.nD Cert.LogitsIdeal.τ).loc Cert.LogitsIdeal.main_arg0)
          ∧ r.2.mem ((c.tc : Thread Cert.LogitsIdeal.nD Cert.LogitsIdeal.τ).loc Cert.LogitsIdeal.main_arg1) = m ((c.tc : Thread Cert.LogitsIdeal.nD Cert.LogitsIdeal.τ).loc Cert.LogitsIdeal.main_arg1)
          ∧ r.2.mem ((c.tc : Thread Cert.LogitsIdeal.nD Cert.LogitsIdeal.τ).loc Cert.LogitsIdeal.main_arg2) = m ((c.tc : Thread Cert.LogitsIdeal.nD Cert.LogitsIdeal.τ).loc Cert.LogitsIdeal.main_arg2)
          ∧ r.2.mem ((c.tc : Thread Cert.LogitsIdeal.nD Cert.LogitsIdeal.τ).loc Cert.LogitsIdeal.main_arg3) = m ((c.tc : Thread Cert.LogitsIdeal.nD Cert.LogitsIdeal.τ).loc Cert.LogitsIdeal.main_arg3))
      ∧ θ_run (Cert.LogitsReferenceIdeal.defs (F := Ideal)) (onTc (τ := Cert.LogitsReferenceIdeal.τ) (Cert.LogitsReferenceIdeal.main (F := Ideal))) ⟨m', fun _ => 0, g'⟩ (fun r => ∀ c : Dev Cert.LogitsReferenceIdeal.nD,
          r.2.mem ((c.tc : Thread Cert.LogitsReferenceIdeal.nD Cert.LogitsReferenceIdeal.τ).loc Cert.LogitsReferenceIdeal.main_v2) = v0 c
          ∧ r.2.mem ((c.tc : Thread Cert.LogitsReferenceIdeal.nD Cert.LogitsReferenceIdeal.τ).loc Cert.LogitsReferenceIdeal.main_arg0) = m' ((c.tc : Thread Cert.LogitsReferenceIdeal.nD Cert.LogitsReferenceIdeal.τ).loc Cert.LogitsReferenceIdeal.main_arg0)
          ∧ r.2.mem ((c.tc : Thread Cert.LogitsReferenceIdeal.nD Cert.LogitsReferenceIdeal.τ).loc Cert.LogitsReferenceIdeal.main_arg1) = m' ((c.tc : Thread Cert.LogitsReferenceIdeal.nD Cert.LogitsReferenceIdeal.τ).loc Cert.LogitsReferenceIdeal.main_arg1)
          ∧ r.2.mem ((c.tc : Thread Cert.LogitsReferenceIdeal.nD Cert.LogitsReferenceIdeal.τ).loc Cert.LogitsReferenceIdeal.main_arg2) = m' ((c.tc : Thread Cert.LogitsReferenceIdeal.nD Cert.LogitsReferenceIdeal.τ).loc Cert.LogitsReferenceIdeal.main_arg2)
          ∧ r.2.mem ((c.tc : Thread Cert.LogitsReferenceIdeal.nD Cert.LogitsReferenceIdeal.τ).loc Cert.LogitsReferenceIdeal.main_arg3) = m' ((c.tc : Thread Cert.LogitsReferenceIdeal.nD Cert.LogitsReferenceIdeal.τ).loc Cert.LogitsReferenceIdeal.main_arg3))

def Claim : Prop :=
  ∃ (hKernel : Cert.Kernel.Facts) (hKernelIdeal : Cert.KernelIdeal.Facts) (hReferenceIdeal : Cert.ReferenceIdeal.Facts) (hLogits : Cert.Logits.Facts) (hLogitsIdeal : Cert.LogitsIdeal.Facts) (hLogitsReferenceIdeal : Cert.LogitsReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Logits (hLogits := hLogits)
    ∧ quiescent_LogitsIdeal (hLogitsIdeal := hLogitsIdeal)
    ∧ quiescent_LogitsReferenceIdeal (hLogitsReferenceIdeal := hLogitsReferenceIdeal)
    ∧ preserves_Kernel_KernelIdeal
    ∧ algebraic_KernelIdeal_ReferenceIdeal (hKernelIdeal := hKernelIdeal) (hReferenceIdeal := hReferenceIdeal)
    ∧ preserves_Logits_LogitsIdeal
    ∧ algebraic_LogitsIdeal_LogitsReferenceIdeal (hLogitsIdeal := hLogitsIdeal) (hLogitsReferenceIdeal := hLogitsReferenceIdeal)
-- ==== Kernel.lean ====
abbrev S64x768x1024 : Shape := ⟨3, ![64, 768, 1024]⟩
abbrev S65536x1536 : Shape := ⟨2, ![65536, 1536]⟩
abbrev S64x1x1024 : Shape := ⟨3, ![64, 1, 1024]⟩
abbrev S768x1536 : Shape := ⟨2, ![768, 1536]⟩
abbrev S768x128 : Shape := ⟨2, ![768, 128]⟩
abbrev S1x768x1024 : Shape := ⟨3, ![1, 768, 1024]⟩
abbrev S1024x1536 : Shape := ⟨2, ![1024, 1536]⟩
abbrev S1x1x1024 : Shape := ⟨3, ![1, 1, 1024]⟩
abbrev S768x1024 : Shape := ⟨2, ![768, 1024]⟩
abbrev S1024x768 : Shape := ⟨2, ![1024, 768]⟩
abbrev S32x128 : Shape := ⟨2, ![32, 128]⟩
abbrev S1x32x1024 : Shape := ⟨3, ![1, 32, 1024]⟩
abbrev S32x1024 : Shape := ⟨2, ![32, 1024]⟩
abbrev S32 : Shape := ⟨1, ![32]⟩
abbrev S32x1 : Shape := ⟨2, ![32, 1]⟩
abbrev S128x128 : Shape := ⟨2, ![128, 128]⟩
abbrev S1x128x128 : Shape := ⟨3, ![1, 128, 128]⟩
abbrev S1x1x128 : Shape := ⟨3, ![1, 1, 128]⟩
abbrev S1x128 : Shape := ⟨2, ![1, 128]⟩
abbrev S768x256 : Shape := ⟨2, ![768, 256]⟩
abbrev S1024x256 : Shape := ⟨2, ![1024, 256]⟩

abbrev nBuf : Space → Nat
  | .hbm => 7
  | .vmem => 15
  | .smem => 0
  | _ => 0

abbrev bufTy : (tb : Table) → Fin (tcTables nBuf tb) → BufTy
  | .hbm, ⟨0, _⟩ => ⟨S64x768x1024, .f32⟩
  | .hbm, ⟨1, _⟩ => ⟨S65536x1536, .fp8e4m3⟩
  | .hbm, ⟨2, _⟩ => ⟨S64x1x1024, .f32⟩
  | .hbm, ⟨3, _⟩ => ⟨S768x1536, .bf16⟩
  | .hbm, ⟨4, _⟩ => ⟨S65536x1536, .f32⟩
  | .hbm, ⟨5, _⟩ => ⟨S768x1536, .f32⟩
  | .hbm, ⟨6, _⟩ => ⟨S768x128, .f32⟩
  | .local _ .vmem, ⟨0, _⟩ => ⟨S1x768x1024, .f32⟩
  | .local _ .vmem, ⟨1, _⟩ => ⟨S1x768x1024, .f32⟩
  | .local _ .vmem, ⟨2, _⟩ => ⟨S1024x1536, .fp8e4m3⟩
  | .local _ .vmem, ⟨3, _⟩ => ⟨S1024x1536, .fp8e4m3⟩
  | .local _ .vmem, ⟨4, _⟩ => ⟨S1x1x1024, .f32⟩
  | .local _ .vmem, ⟨5, _⟩ => ⟨S1x1x1024, .f32⟩
  | .local _ .vmem, ⟨6, _⟩ => ⟨S768x1536, .bf16⟩
  | .local _ .vmem, ⟨7, _⟩ => ⟨S1024x1536, .f32⟩
  | .local _ .vmem, ⟨8, _⟩ => ⟨S1024x1536, .f32⟩
  | .local _ .vmem, ⟨9, _⟩ => ⟨S768x1536, .f32⟩
  | .local _ .vmem, ⟨10, _⟩ => ⟨S768x128, .f32⟩
  | .local _ .vmem, ⟨11, _⟩ => ⟨S768x1024, .bf16⟩
  | .local _ .vmem, ⟨12, _⟩ => ⟨S768x1024, .bf16⟩
  | .local _ .vmem, ⟨13, _⟩ => ⟨S1024x768, .bf16⟩
  | .local _ .vmem, ⟨14, _⟩ => ⟨S1024x768, .bf16⟩
  | _, _ => ⟨S64x768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c64_i32 : BitVec 32 := 64#32
  let v5 : BitVec 1 := Scalar.cmpi .slt arg0 c64_i32
  let c2_i32 : BitVec 32 := 2#32
  let v3 : BitVec 32 := Scalar.remsi arg0 c2_i32
  let c1_i32 : BitVec 32 := 1#32
  let v4 : BitVec 1 := Scalar.cmpi .eq v3 c1_i32
  let v6 : BitVec 1 := Scalar.andi v5 v4
  let v7 : BitVec 32 := Scalar.extui v6
  let c0_i32_1 : BitVec 32 := 0#32
  let v8 : BitVec 1 := Scalar.cmpi .ne v7 c0_i32_1
  v8

def k0_cond3 (i : grid0.Coords) : BitVec 1 :=
  let arg0 : BitVec 32 := BitVec.ofNat 32 (i 0).val
  let c0_i32_2 : BitVec 32 := 0#32
  let v9 : BitVec 1 := Scalar.cmpi .sgt arg0 c0_i32_2
  let c64_i32_3 : BitVec 32 := 64#32
  let v10 : BitVec 1 := Scalar.cmpi .slt arg0 c64_i32_3
  let v11 : BitVec 1 := Scalar.andi v9 v10
  let v12 : BitVec 32 := Scalar.extui v11
  let c0_i32_4 : BitVec 32 := 0#32
  let v13 : BitVec 1 := Scalar.cmpi .ne v12 c0_i32_4
  v13

def k0_cond4 (i : grid0.Coords) : BitVec 1 :=
  let arg0 : BitVec 32 := BitVec.ofNat 32 (i 0).val
  let c2_i32 : BitVec 32 := 2#32
  let v3 : BitVec 32 := Scalar.remsi arg0 c2_i32
  let c1_i32 : BitVec 32 := 1#32
  let v4 : BitVec 1 := Scalar.cmpi .eq v3 c1_i32
  let v_true : BitVec 1 := 1#1
  let v17 : BitVec 1 := Scalar.xori v4 v_true
  let v18 : BitVec 32 := Scalar.extui v17
  let c0_i32_7 : BitVec 32 := 0#32
  let v19 : BitVec 1 := Scalar.cmpi .ne v18 c0_i32_7
  v19

def k0_cond5 (i : grid0.Coords) : BitVec 1 :=
  let arg0 : BitVec 32 := BitVec.ofNat 32 (i 0).val
  let c64_i32_5 : BitVec 32 := 64#32
  let v14 : BitVec 1 := Scalar.cmpi .eq arg0 c64_i32_5
  let v15 : BitVec 32 := Scalar.extui v14
  let c0_i32_6 : BitVec 32 := 0#32
  let v16 : BitVec 1 := Scalar.cmpi .ne v15 c0_i32_6
  v16

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1536 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S768x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S64x768x1024 : Shape := ⟨3, ![64, 768, 1024]⟩
abbrev S65536x1536 : Shape := ⟨2, ![65536, 1536]⟩
abbrev S64x1x1024 : Shape := ⟨3, ![64, 1, 1024]⟩
abbrev S768x1536 : Shape := ⟨2, ![768, 1536]⟩
abbrev S_ : Shape := ⟨0, ![]⟩
abbrev S64x768 : Shape := ⟨2, ![64, 768]⟩
abbrev S254 : Shape := ⟨1, ![254]⟩
abbrev S64x768x1 : Shape := ⟨3, ![64, 768, 1]⟩
abbrev S1x1x254 : Shape := ⟨3, ![1, 1, 254]⟩
abbrev S64x768x254 : Shape := ⟨3, ![64, 768, 254]⟩
abbrev S768x64x1024 : Shape := ⟨3, ![768, 64, 1024]⟩
abbrev S768x65536 : Shape := ⟨2, ![768, 65536]⟩
abbrev S65536x1 : Shape := ⟨2, ![65536, 1]⟩
abbrev S768x64 : Shape := ⟨2, ![768, 64]⟩
abbrev S768x128 : Shape := ⟨2, ![768, 128]⟩

abbrev nBuf : Space → Nat
  | .hbm => 63
  | .vmem => 9
  | .smem => 0
  | _ => 0

abbrev bufTy : (tb : Table) → Fin (tcTables nBuf tb) → BufTy
  | .hbm, ⟨0, _⟩ => ⟨S64x768x1024, .f32⟩
  | .hbm, ⟨1, _⟩ => ⟨S65536x1536, .fp8e4m3⟩
  | .hbm, ⟨2, _⟩ => ⟨S64x1x1024, .f32⟩
  | .hbm, ⟨3, _⟩ => ⟨S768x1536, .bf16⟩
  | .hbm, ⟨4, _⟩ => ⟨S64x768x1024, .f32⟩
  | .hbm, ⟨5, _⟩ => ⟨S_, .f32⟩
  | .hbm, ⟨6, _⟩ => ⟨S64x768, .f32⟩
  | .hbm, ⟨7, _⟩ => ⟨S_, .f32⟩
  | .hbm, ⟨8, _⟩ => ⟨S64x768, .f32⟩
  | .hbm, ⟨9, _⟩ => ⟨S64x768, .f32⟩
  | .hbm, ⟨10, _⟩ => ⟨S254, .i32⟩
  | .hbm, ⟨11, _⟩ => ⟨S_, .i32⟩
  | .hbm, ⟨12, _⟩ => ⟨S254, .i32⟩
  | .hbm, ⟨13, _⟩ => ⟨S254, .i32⟩
  | .hbm, ⟨14, _⟩ => ⟨S_, .i32⟩
  | .hbm, ⟨15, _⟩ => ⟨S254, .i32⟩
  | .hbm, ⟨16, _⟩ => ⟨S254, .i32⟩
  | .hbm, ⟨17, _⟩ => ⟨S254, .f32⟩
  | .hbm, ⟨18, _⟩ => ⟨S64x768x1, .f32⟩
  | .hbm, ⟨19, _⟩ => ⟨S1x1x254, .f32⟩
  | .hbm, ⟨20, _⟩ => ⟨S64x768x254, .f32⟩
  | .hbm, ⟨21, _⟩ => ⟨S64x768x254, .f32⟩
  | .hbm, ⟨22, _⟩ => ⟨S64x768x254, .i1⟩
  | .hbm, ⟨23, _⟩ => ⟨S64x768x254, .f32⟩
  | .hbm, ⟨24, _⟩ => ⟨S_, .f32⟩
  | .hbm, ⟨25, _⟩ => ⟨S64x768x254, .f32⟩
  | .hbm, ⟨26, _⟩ => ⟨S64x768x254, .f32⟩
  | .hbm, ⟨27, _⟩ => ⟨S_, .f32⟩
  | .hbm, ⟨28, _⟩ => ⟨S64x768, .f32⟩
  | .hbm, ⟨29, _⟩ => ⟨S_, .f32⟩
  | .hbm, ⟨30, _⟩ => ⟨S64x768, .f32⟩
  | .hbm, ⟨31, _⟩ => ⟨S64x768, .i1⟩
  | .hbm, ⟨32, _⟩ => ⟨S_, .f32⟩
  | .hbm, ⟨33, _⟩ => ⟨S64x768, .f32⟩
  | .hbm, ⟨34, _⟩ => ⟨S_, .f32⟩
  | .hbm, ⟨35, _⟩ => ⟨S64x768, .f32⟩
  | .hbm, ⟨36, _⟩ => ⟨S64x768, .f32⟩
  | .hbm, ⟨37, _⟩ => ⟨S64x768, .f32⟩
  | .hbm, ⟨38, _⟩ => ⟨S_, .f32⟩
  | .hbm, ⟨39, _⟩ => ⟨S64x768, .f32⟩
  | .hbm, ⟨40, _⟩ => ⟨S64x768, .f32⟩
  | .hbm, ⟨41, _⟩ => ⟨S64x768x1, .f32⟩
  | .hbm, ⟨42, _⟩ => ⟨S64x768x1024, .f32⟩
  | .hbm, ⟨43, _⟩ => ⟨S64x768x1024, .f32⟩
  | .hbm, ⟨44, _⟩ => ⟨S_, .f32⟩
  | .hbm, ⟨45, _⟩ => ⟨S64x768x1024, .f32⟩
  | .hbm, ⟨46, _⟩ => ⟨S64x768x1024, .f32⟩
  | .hbm, ⟨47, _⟩ => ⟨S_, .f32⟩
  | .hbm, ⟨48, _⟩ => ⟨S64x768x1024, .f32⟩
  | .hbm, ⟨49, _⟩ => ⟨S64x768x1024, .f32⟩
  | .hbm, ⟨50, _⟩ => ⟨S768x64x1024, .f32⟩
  | .hbm, ⟨51, _⟩ => ⟨S768x65536, .f32⟩
  | .hbm, ⟨52, _⟩ => ⟨S64x768, .bf16⟩
  | .hbm, ⟨53, _⟩ => ⟨S64x768x1, .bf16⟩
  | .hbm, ⟨54, _⟩ => ⟨S64x768x1024, .bf16⟩
  | .hbm, ⟨55, _⟩ => ⟨S768x64x1024, .bf16⟩
  | .hbm, ⟨56, _⟩ => ⟨S768x65536, .bf16⟩
  | .hbm, ⟨57, _⟩ => ⟨S65536x1, .f32⟩
  | .hbm, ⟨58, _⟩ => ⟨S65536x1, .bf16⟩
  | .hbm, ⟨59, _⟩ => ⟨S768x64, .f32⟩
  | .hbm, ⟨60, _⟩ => ⟨S65536x1536, .f32⟩
  | .hbm, ⟨61, _⟩ => ⟨S768x1536, .f32⟩
  | .hbm, ⟨62, _⟩ => ⟨S768x128, .f32⟩
  | .local _ .vmem, ⟨0, _⟩ => ⟨S768x65536, .f32⟩
  | .local _ .vmem, ⟨1, _⟩ => ⟨S768x65536, .bf16⟩
  | .local _ .vmem, ⟨2, _⟩ => ⟨S768x64, .f32⟩
  | .local _ .vmem, ⟨3, _⟩ => ⟨S65536x1536, .fp8e4m3⟩
  | .local _ .vmem, ⟨4, _⟩ => ⟨S65536x1, .bf16⟩
  | .local _ .vmem, ⟨5, _⟩ => ⟨S768x1536, .bf16⟩
  | .local _ .vmem, ⟨6, _⟩ => ⟨S65536x1536, .f32⟩
  | .local _ .vmem, ⟨7, _⟩ => ⟨S768x1536, .f32⟩
  | .local _ .vmem, ⟨8, _⟩ => ⟨S768x128, .f32⟩
  | _, _ => ⟨S64x768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44_0 : Ref sig .tc := ⟨.hbm, 60, rfl⟩
abbrev main_v44_1 : Ref sig .tc := ⟨.hbm, 61, rfl⟩
abbrev main_v44_2 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S768x65536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x65536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S65536x1536 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S65536x1 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S768x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S65536x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S768x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S768x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Logits.lean ====
abbrev S768x1536 : Shape := ⟨2, ![768, 1536]⟩
abbrev S6x128 : Shape := ⟨2, ![6, 128]⟩
abbrev S65536x1536 : Shape := ⟨2, ![65536, 1536]⟩
abbrev S64x1x1024 : Shape := ⟨3, ![64, 1, 1024]⟩
abbrev S64x768x1024 : Shape := ⟨3, ![64, 768, 1024]⟩
abbrev S1024x1536 : Shape := ⟨2, ![1024, 1536]⟩
abbrev S1x1x1024 : Shape := ⟨3, ![1, 1, 1024]⟩
abbrev S1x768x1024 : Shape := ⟨3, ![1, 768, 1024]⟩
abbrev S768x128 : Shape := ⟨2, ![768, 128]⟩
abbrev S768x1024 : Shape := ⟨2, ![768, 1024]⟩
abbrev S1x128 : Shape := ⟨2, ![1, 128]⟩
abbrev S128x128 : Shape := ⟨2, ![128, 128]⟩
abbrev S32x128 : Shape := ⟨2, ![32, 128]⟩
abbrev S256x1536 : Shape := ⟨2, ![256, 1536]⟩
abbrev S768x256 : Shape := ⟨2, ![768, 256]⟩
abbrev S16x128 : Shape := ⟨2, ![16, 128]⟩
abbrev S1x1x128 : Shape := ⟨3, ![1, 1, 128]⟩
abbrev S1x16x128 : Shape := ⟨3, ![1, 16, 128]⟩

abbrev nBuf : Space → Nat
  | .hbm => 5
  | .vmem => 12
  | .smem => 0
  | _ => 0

abbrev bufTy : (tb : Table) → Fin (tcTables nBuf tb) → BufTy
  | .hbm, ⟨0, _⟩ => ⟨S768x1536, .fp8e4m3⟩
  | .hbm, ⟨1, _⟩ => ⟨S6x128, .f32⟩
  | .hbm, ⟨2, _⟩ => ⟨S65536x1536, .fp8e4m3⟩
  | .hbm, ⟨3, _⟩ => ⟨S64x1x1024, .f32⟩
  | .hbm, ⟨4, _⟩ => ⟨S64x768x1024, .f32⟩
  | .local _ .vmem, ⟨0, _⟩ => ⟨S768x1536, .fp8e4m3⟩
  | .local _ .vmem, ⟨1, _⟩ => ⟨S6x128, .f32⟩
  | .local _ .vmem, ⟨2, _⟩ => ⟨S1024x1536, .fp8e4m3⟩
  | .local _ .vmem, ⟨3, _⟩ => ⟨S1024x1536, .fp8e4m3⟩
  | .local _ .vmem, ⟨4, _⟩ => ⟨S1x1x1024, .f32⟩
  | .local _ .vmem, ⟨5, _⟩ => ⟨S1x1x1024, .f32⟩
  | .local _ .vmem, ⟨6, _⟩ => ⟨S1x768x1024, .f32⟩
  | .local _ .vmem, ⟨7, _⟩ => ⟨S1x768x1024, .f32⟩
  | .local _ .vmem, ⟨8, _⟩ => ⟨S768x1536, .fp8e4m3⟩
  | .local _ .vmem, ⟨9, _⟩ => ⟨S768x128, .f32⟩
  | .local _ .vmem, ⟨10, _⟩ => ⟨S768x1024, .f32⟩
  | .local _ .vmem, ⟨11, _⟩ => ⟨S768x1024, .f32⟩
  | _, _ => ⟨S768x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c64_i32 : BitVec 32 := 64#32
  let v5 : BitVec 1 := Scalar.cmpi .slt arg0 c64_i32
  let c2_i32 : BitVec 32 := 2#32
  let v3 : BitVec 32 := Scalar.remsi arg0 c2_i32
  let c1_i32 : BitVec 32 := 1#32
  let v4 : BitVec 1 := Scalar.cmpi .eq v3 c1_i32
  let v6 : BitVec 1 := Scalar.andi v5 v4
  let v7 : BitVec 32 := Scalar.extui v6
  let c0_i32_1 : BitVec 32 := 0#32
  let v8 : BitVec 1 := Scalar.cmpi .ne v7 c0_i32_1
  v8

def k0_cond3 (i : grid0.Coords) : BitVec 1 :=
  let arg0 : BitVec 32 := BitVec.ofNat 32 (i 0).val
  let c0_i32_2 : BitVec 32 := 0#32
  let v9 : BitVec 1 := Scalar.cmpi .sgt arg0 c0_i32_2
  let c64_i32_3 : BitVec 32 := 64#32
  let v10 : BitVec 1 := Scalar.cmpi .slt arg0 c64_i32_3
  let v11 : BitVec 1 := Scalar.andi v9 v10
  let v12 : BitVec 32 := Scalar.extui v11
  let c0_i32_4 : BitVec 32 := 0#32
  let v13 : BitVec 1 := Scalar.cmpi .ne v12 c0_i32_4
  v13

def k0_cond4 (i : grid0.Coords) : BitVec 1 :=
  let arg0 : BitVec 32 := BitVec.ofNat 32 (i 0).val
  let c2_i32 : BitVec 32 := 2#32
  let v3 : BitVec 32 := Scalar.remsi arg0 c2_i32
  let c1_i32 : BitVec 32 := 1#32
  let v4 : BitVec 1 := Scalar.cmpi .eq v3 c1_i32
  let v_true : BitVec 1 := 1#1
  let v17 : BitVec 1 := Scalar.xori v4 v_true
  let v18 : BitVec 32 := Scalar.extui v17
  let c0_i32_7 : BitVec 32 := 0#32
  let v19 : BitVec 1 := Scalar.cmpi .ne v18 c0_i32_7
  v19

def k0_cond5 (i : grid0.Coords) : BitVec 1 :=
  let arg0 : BitVec 32 := BitVec.ofNat 32 (i 0).val
  let c64_i32_5 : BitVec 32 := 64#32
  let v14 : BitVec 1 := Scalar.cmpi .eq arg0 c64_i32_5
  let v15 : BitVec 32 := Scalar.extui v14
  let c0_i32_6 : BitVec 32 := 0#32
  let v16 : BitVec 1 := Scalar.cmpi .ne v15 c0_i32_6
  v16

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 1 → Memref sig .tc .vmem S768x1536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S6x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1536 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LogitsReferenceIdeal.lean ====
abbrev S768x1536 : Shape := ⟨2, ![768, 1536]⟩
abbrev S6x128 : Shape := ⟨2, ![6, 128]⟩
abbrev S65536x1536 : Shape := ⟨2, ![65536, 1536]⟩
abbrev S64x1x1024 : Shape := ⟨3, ![64, 1, 1024]⟩
abbrev S1x768x1 : Shape := ⟨3, ![1, 768, 1]⟩
abbrev S64x1024x1536 : Shape := ⟨3, ![64, 1024, 1536]⟩
abbrev S64x768x1024 : Shape := ⟨3, ![64, 768, 1024]⟩
abbrev S1x768x1536 : Shape := ⟨3, ![1, 768, 1536]⟩
abbrev S64x768x1536 : Shape := ⟨3, ![64, 768, 1536]⟩

abbrev nBuf : Space → Nat
  | .hbm => 7
  | .vmem => 5
  | .smem => 0
  | _ => 0

abbrev bufTy : (tb : Table) → Fin (tcTables nBuf tb) → BufTy
  | .hbm, ⟨0, _⟩ => ⟨S768x1536, .fp8e4m3⟩
  | .hbm, ⟨1, _⟩ => ⟨S6x128, .f32⟩
  | .hbm, ⟨2, _⟩ => ⟨S65536x1536, .fp8e4m3⟩
  | .hbm, ⟨3, _⟩ => ⟨S64x1x1024, .f32⟩
  | .hbm, ⟨4, _⟩ => ⟨S1x768x1, .f32⟩
  | .hbm, ⟨5, _⟩ => ⟨S64x1024x1536, .fp8e4m3⟩
  | .hbm, ⟨6, _⟩ => ⟨S64x768x1024, .f32⟩
  | .local _ .vmem, ⟨0, _⟩ => ⟨S768x1536, .fp8e4m3⟩
  | .local _ .vmem, ⟨1, _⟩ => ⟨S1x768x1, .f32⟩
  | .local _ .vmem, ⟨2, _⟩ => ⟨S64x1024x1536, .fp8e4m3⟩
  | .local _ .vmem, ⟨3, _⟩ => ⟨S64x1x1024, .f32⟩
  | .local _ .vmem, ⟨4, _⟩ => ⟨S64x768x1024, .f32⟩
  | _, _ => ⟨S768x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S768x1536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x768x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024x1536 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x768x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Scale.lean ====
/- The power-of-two scale of a row, over the extended reals. The kernel finds the largest power of two that is at most
   `x` by a ladder of comparisons (`ladder`); the reference takes the maximum over a table of all of them (`table`). Both
   give the same scale and the same reciprocal (`scaleOf_eq`, `invOf_eq`). -/
module

public import Idealize.ShloMosaic.Lib.Pointwise

@[expose] public section

set_option maxRecDepth 16384

noncomputable section

namespace Cert.Scale

open Idealize.ShloMosaic

/-- The power of two with exponent `k`, as an extended real. -/
def pw (k : ℤ) : EReal := (((2 : ℝ) ^ k : ℝ) : EReal)

theorem pw_mul (a b : ℤ) : pw a * pw b = pw (a + b) := by
  unfold pw
  rw [← EReal.coe_mul, zpow_add₀ (by norm_num : (2 : ℝ) ≠ 0)]

theorem pw_le {a b : ℤ} : pw a ≤ pw b ↔ a ≤ b := by
  unfold pw
  rw [EReal.coe_le_coe_iff]
  exact zpow_le_zpow_iff_right₀ (by norm_num)

theorem pw_pos (a : ℤ) : 0 < pw a := by
  unfold pw
  rw [EReal.coe_pos]
  positivity

theorem pw_zero : pw 0 = 1 := by simp [pw]

/-- A binary32 pattern with an empty sign and an empty significand is the power of two its exponent field names. -/
theorem ofBits_pw (e : ℕ) (h1 : 1 ≤ e) (h2 : e ≤ 254) (b : BitVec 32) (hb : b.toNat = e * 2 ^ 23) :
    Ideal.ofBits .f32 b = pw ((e : ℤ) - 127) := by
  have hs : b.extractLsb' (8 + 23) 1 = 0#1 := by
    apply BitVec.eq_of_toNat_eq
    simp only [BitVec.extractLsb'_toNat, hb, Nat.shiftRight_eq_div_pow]
    simp
    omega
  have he : (b.extractLsb' 23 8).toNat = e := by
    simp only [BitVec.extractLsb'_toNat, hb, Nat.shiftRight_eq_div_pow]
    omega
  have hf : (b.extractLsb' 0 23).toNat = 0 := by
    simp only [BitVec.extractLsb'_toNat, hb, Nat.shiftRight_eq_div_pow]
    omega
  show Ideal.ieee 8 23 b = _
  unfold Ideal.ieee
  simp only [hs, he, hf]
  rw [if_neg (by norm_num; omega), if_neg (by omega)]
  unfold pw
  congr 1
  have : ((e : ℤ) - (2 ^ (8 - 1) - 1) - (23 : ℕ)) = ((e : ℤ) - 127) + (-23) := by norm_num; ring
  rw [this, zpow_add₀ (by norm_num : (2 : ℝ) ≠ 0)]
  norm_num
  ring

/-- One rung: multiply by the power of two `s` if the product is still at most `x`. -/
def rung (x p : EReal) (s : ℤ) : EReal := if p * pw s ≤ x then p * pw s else p

/-- The kernel's ladder of comparisons. -/
def ladder (x : EReal) : EReal :=
  rung x (rung x (rung x (rung x (rung x (rung x (rung x (rung x (pw (-126)) 126) 64) 32) 16) 8) 4) 2) 1

/-- What the ladder keeps: `p` is a power of two at most `x`, and `n` more exponents are open above it (none of them
    beyond `127`). -/
def Within (x p : EReal) (n : ℤ) : Prop :=
  ∃ k : ℤ, -126 ≤ k ∧ k + n ≤ 128 ∧ p = pw k ∧ pw k ≤ x ∧ (x < pw (k + n) ∨ k + n = 128)

theorem Within.rung {x p : EReal} {n : ℤ} (h : Within x p n) (s n' : ℤ) (hs : 0 < s) (hn : s ≤ n') (hn' : s + n' = n) :
    Within x (rung x p s) n' := by
  obtain ⟨k, h1, h2, rfl, h3, h4⟩ := h
  unfold Cert.Scale.rung
  rw [pw_mul]
  split
  · rename_i hc
    refine ⟨k + s, by omega, by omega, rfl, hc, ?_⟩
    rw [show k + s + n' = k + n by omega]
    exact h4
  · rename_i hc
    exact ⟨k, h1, by omega, rfl, h3, .inl (lt_of_lt_of_le (not_le.1 hc) (pw_le.2 (by omega)))⟩

theorem ladder_within {x : EReal} (h : ¬x < pw (-126)) : Within x (ladder x) 1 := by
  have h0 : Within x (pw (-126)) 254 := ⟨-126, by omega, by omega, rfl, not_lt.1 h, .inr (by omega)⟩
  unfold ladder
  exact (((((((h0.rung 126 128 (by omega) (by omega) (by omega)).rung 64 64 (by omega) (by omega) (by omega)).rung
    32 32 (by omega) (by omega) (by omega)).rung 16 16 (by omega) (by omega) (by omega)).rung
    8 8 (by omega) (by omega) (by omega)).rung 4 4 (by omega) (by omega) (by omega)).rung
    2 2 (by omega) (by omega) (by omega)).rung 1 1 (by omega) (by omega) (by omega)

/-- The reference's table: the largest of the powers of two `2 ^ -126 … 2 ^ 127` that is at most `x`, or zero. -/
def table (x : EReal) : EReal :=
  Finset.univ.fold max ⊥ fun i : Fin 254 => if pw ((i.val : ℤ) - 126) ≤ x then pw ((i.val : ℤ) - 126) else 0

theorem table_small {x : EReal} (h : x < pw (-126)) : table x = 0 := by
  have hb : ∀ i : Fin 254, ¬pw ((i.val : ℤ) - 126) ≤ x := fun i hi =>
    absurd (lt_of_le_of_lt hi h) (not_lt.2 (pw_le.2 (by omega)))
  unfold table
  simp only [hb, if_false]
  apply le_antisymm
  · exact Finset.fold_max_le _ |>.2 ⟨bot_le, fun _ _ => le_rfl⟩
  · exact Finset.le_fold_max _ |>.2 (.inr ⟨0, Finset.mem_univ _, le_rfl⟩)

theorem table_large {x : EReal} (h : ¬x < pw (-126)) : table x = ladder x := by
  obtain ⟨k, h1, h2, hk, h3, h4⟩ := ladder_within h
  rw [hk]
  unfold table
  apply le_antisymm
  · refine Finset.fold_max_le _ |>.2 ⟨bot_le, fun i _ => ?_⟩
    split
    · rename_i hi
      apply pw_le.2
      rcases h4 with h4 | h4
      · have := lt_of_le_of_lt hi h4
        by_contra hc
        exact absurd (pw_le.2 (by omega : k + 1 ≤ (i.val : ℤ) - 126)) (not_le.2 this)
      · have := i.isLt
        omega
    · exact (pw_pos k).le
  · refine Finset.le_fold_max _ |>.2 (.inr ⟨⟨(k + 126).toNat, by omega⟩, Finset.mem_univ _, ?_⟩)
    have e : (((k + 126).toNat : ℕ) : ℤ) - 126 = k := by omega
    simp only [e, if_pos h3]
    exact le_rfl

/-- The kernel's scale of a row whose largest magnitude, divided by the format's largest value, is `x`. -/
def scaleOf (x : EReal) : EReal := if x < pw (-126) then 1 else ladder x * pw 1

/-- The kernel's reciprocal of the scale. -/
def invOf (x : EReal) : EReal := if x < pw (-126) then 1 else Ideal.div (pw (-1)) (ladder x)

/-- The reference's scale. -/
def scaleTable (x : EReal) : EReal := if table x = 0 then 1 else pw 1 * table x

theorem scaleOf_eq (x : EReal) : scaleOf x = scaleTable x := by
  unfold scaleOf scaleTable
  by_cases h : x < pw (-126)
  · rw [if_pos h, if_pos (table_small h)]
  · obtain ⟨k, -, -, hk, -, -⟩ := ladder_within h
    rw [if_neg h, table_large h, if_neg (by rw [hk]; exact (pw_pos k).ne'), mul_comm]

theorem div_pw (a b : ℤ) : Ideal.div (pw a) (pw b) = pw (a - b) := by
  unfold Ideal.div
  rw [if_neg (pw_pos b).ne']
  unfold pw
  rw [← EReal.coe_inv, ← EReal.coe_mul, zpow_sub₀ (by norm_num : (2 : ℝ) ≠ 0), div_eq_mul_inv]

theorem invOf_eq (x : EReal) : invOf x = Ideal.div 1 (scaleTable x) := by
  unfold invOf scaleTable
  by_cases h : x < pw (-126)
  · rw [if_pos h, if_pos (table_small h), ← pw_zero, div_pw]; rfl
  · obtain ⟨k, -, -, hk, -, -⟩ := ladder_within h
    rw [if_neg h, table_large h, if_neg (by rw [hk]; exact (pw_pos k).ne'), hk, pw_mul, ← pw_zero, div_pw, div_pw]
    congr 1
    omega

end Cert.Scale

end
-- ==== Proof.Spec.lean ====
/- What both programs compute, row by row of a chunk: a row's scale, and its values quantised and scaled back. -/
module

public import proofs.«01_k».proof.Proof.Scale

@[expose] public section

set_option maxRecDepth 16384

noncomputable section

namespace Cert.Scale

open Idealize.ShloMosaic

/-- A row's largest magnitude over the format's largest value. -/
def xOf (f : Fin 1024 → EReal) : EReal :=
  Finset.univ.fold max (Ideal.ofBits .f32 0xFF800000#32) (fun k => FloatOps.absf (F := Ideal) (φ := .f32) (f k)) * Ideal.ofBits .f32 0x37924925#32

/-- A row's scale. -/
def sOf (f : Fin 1024 → EReal) : EReal := scaleTable (xOf f)

/-- A row's value at `k`: scaled, clipped, scaled back. -/
def gOf (f : Fin 1024 → EReal) (k : Fin 1024) : EReal :=
  min (max (f k * Ideal.div 1 (sOf f)) (Ideal.ofBits .f32 0xC7600000#32)) (Ideal.ofBits .f32 0x47600000#32) * sOf f

/-- The head's gradient at row `v`, column `d`: the quantised values' column `v` against the hidden rows. -/
def headOf (Z : Fin 64 → Fin 768 → Fin 1024 → EReal) (H : Fin 768 → Fin 1536 → EReal) (v : Fin 65536) (d : Fin 1536) : EReal :=
  ∑ r : Fin 768, gOf (Z ⟨v.val / 1024, by omega⟩ r) ⟨v.val % 1024, by omega⟩ * H r d

/-- The hidden rows' gradient at row `r`, column `d`: the quantised values' row `r` against the head, each of whose rows has its scale. -/
def hidOf (Z : Fin 64 → Fin 768 → Fin 1024 → EReal) (W : Fin 65536 → Fin 1536 → EReal) (U : Fin 64 → Fin 1024 → EReal) (r : Fin 768) (d : Fin 1536) :
    EReal :=
  ∑ v : Fin 65536, gOf (Z ⟨v.val / 1024, by omega⟩ r) ⟨v.val % 1024, by omega⟩ * (W v d * U ⟨v.val / 1024, by omega⟩ ⟨v.val % 1024, by omega⟩)

/-- The scale of row `r` in chunk `l`, and one in the lanes past the last chunk. -/
def sclOf (Z : Fin 64 → Fin 768 → Fin 1024 → EReal) (r : Fin 768) (l : Fin 128) : EReal :=
  if h : l.val < 64 then sOf (Z ⟨l.val, h⟩ r) else 1

theorem ofBits_two : Ideal.ofBits .f32 0x40000000#32 = pw 1 := ofBits_pw 128 (by norm_num) (by norm_num) _ (by decide)

theorem ofBits_half : Ideal.ofBits .f32 0x3F000000#32 = pw (-1) := ofBits_pw 126 (by norm_num) (by norm_num) _ (by decide)

theorem ofBits_least : Ideal.ofBits .f32 0x00800000#32 = pw (-126) := ofBits_pw 1 (by norm_num) (by norm_num) _ (by decide)

theorem ofBits_bot : Ideal.ofBits .f32 0xFF800000#32 = ⊥ := by
  simp [Ideal.ofBits, Ideal.ieee]

end Cert.Scale

end
-- ==== Proof.KernelTile.lean ====
/- The kernel's quantiser on one tile, as vectors: the scales of 32 rows, the ladder, and a 128-by-128 tile of quantised
   values; and what each holds at an index. -/
module

public import proofs.«01_k».proof.Proof.Gen.KernelIdeal.Skeleton
public import proofs.«01_k».proof.Proof.Spec
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem
open Cert.Scale

/-- The constant `b` in every lane of 32 rows. -/
abbrev splat (b : BitVec 32) : FVec Ideal S32x128 .f32 := broadcast S32x128 (Scalar.ofBits .f32 b)

/-- The largest magnitude of each of 32 rows. -/
def topV (z : Vec Ideal S1x32x1024 .f32) : FVec Ideal S32x128 .f32 :=
  broadcastTo S32x128 (shapeCast S32x1 (shapeCast S32x1
    (multiReduction .maximumf [1] S32 (absf (shapeCast S32x1024 z shapeCasts_S1x32x1024_S32x1024 : FVec Ideal S32x1024 .f32)) 0xFF800000#32
      reduces_S32x1024_S32 (.inl rfl) rfl) shapeCasts_S32_S32x1) shapeCasts_S32x1_S32x1) broadcasts_S32x1_S32x128

/-- `topV` over the format's largest value. -/
def amaxV (z : Vec Ideal S1x32x1024 .f32) : FVec Ideal S32x128 .f32 := mulf (topV z) (splat 0x37924925#32)

/-- One comparison of the ladder. -/
def rungV (x p : FVec Ideal S32x128 .f32) (b : BitVec 32) : FVec Ideal S32x128 .f32 :=
  select (cmpf .oge x (mulf p (splat b))) (mulf p (splat b)) p

/-- The ladder. -/
def ladderV (x : FVec Ideal S32x128 .f32) : FVec Ideal S32x128 .f32 :=
  rungV x (rungV x (rungV x (rungV x (rungV x (rungV x (rungV x (rungV x (splat 0x00800000#32) 0x7E800000#32) 0x5F800000#32) 0x4F800000#32)
    0x47800000#32) 0x43800000#32) 0x41800000#32) 0x40800000#32) 0x40000000#32

/-- The scales. -/
def scaleV (x : FVec Ideal S32x128 .f32) : FVec Ideal S32x128 .f32 :=
  select (cmpf .olt x (splat 0x00800000#32)) (splat 0x3F800000#32) (mulf (ladderV x) (splat 0x40000000#32))

/-- Their reciprocals. -/
def invV (x : FVec Ideal S32x128 .f32) : FVec Ideal S32x128 .f32 :=
  select (cmpf .olt x (splat 0x00800000#32)) (splat 0x3F800000#32) (divf (splat 0x3F000000#32) (ladderV x))

/-- Four groups of 32 rows, one below the other. -/
def cat4 {φ : FTy} (a b c d : FVec Ideal S32x128 φ) : FVec Ideal S128x128 φ :=
  concatenate S128x128 0 [⟨S32x128, a⟩, ⟨S32x128, b⟩, ⟨S32x128, c⟩, ⟨S32x128, d⟩] concatenates_S32x128_S32x128_S32x128_S32x128_S128x128_d0

/-- Scale, clip and scale back. -/
def quantV (v inv : FVec Ideal S128x128 .f32) (sc : FVec Ideal S128x128 .bf16) : FVec Ideal S128x128 .bf16 :=
  mulf (extf .bf16 (truncf .fp8e5m2 (minimumf (broadcast S128x128 (Scalar.ofBits .f32 0x47600000#32))
    (maximumf (broadcast S128x128 (Scalar.ofBits .f32 0xC7600000#32)) (mulf v inv))) bitsLt_fp8e5m2_f32) bitsLt_fp8e5m2_bf16) sc

theorem topV_at (z : Vec Ideal S1x32x1024 .f32) (r : Fin 32) (k : Fin 128) :
    topV z (ix2 r k) = Finset.univ.fold max (Ideal.ofBits .f32 0xFF800000#32)
      (fun k : Fin 1024 => FloatOps.absf (F := Ideal) (φ := .f32) (z (ix3 0 r k))) := by
  pointwise [topV]

theorem mul_splat_at (x : FVec Ideal S32x128 .f32) (b : BitVec 32) (r : Fin 32) (k : Fin 128) :
    mulf x (splat b) (ix2 r k) = x (ix2 r k) * Ideal.ofBits .f32 b := by
  pointwise

theorem amaxV_at (z : Vec Ideal S1x32x1024 .f32) (r : Fin 32) (k : Fin 128) : amaxV z (ix2 r k) = xOf fun k => z (ix3 0 r k) := by
  unfold amaxV xOf
  rw [mul_splat_at, topV_at]

theorem rungV_at (x p : FVec Ideal S32x128 .f32) (b : BitVec 32) (r : Fin 32) (k : Fin 128) :
    rungV x p b (ix2 r k) = (if p (ix2 r k) * Ideal.ofBits .f32 b ≤ x (ix2 r k) then p (ix2 r k) * Ideal.ofBits .f32 b else p (ix2 r k) : EReal) := by
  pointwise [rungV]

theorem rungV_rung (x p : FVec Ideal S32x128 .f32) (b : BitVec 32) (r : Fin 32) (k : Fin 128) (X P : EReal) (s : ℤ)
    (hx : x (ix2 r k) = X) (hp : p (ix2 r k) = P) (hb : Ideal.ofBits .f32 b = pw s) : rungV x p b (ix2 r k) = rung X P s := by
  rw [rungV_at, hx, hp, hb]; rfl

theorem splat_at (b : BitVec 32) (r : Fin 32) (k : Fin 128) : splat b (ix2 r k) = Ideal.ofBits .f32 b := by
  pointwise

theorem ladderV_at (x : FVec Ideal S32x128 .f32) (r : Fin 32) (k : Fin 128) : ladderV x (ix2 r k) = ladder (x (ix2 r k)) := by
  unfold ladderV ladder
  refine rungV_rung _ _ _ r k _ _ 1 rfl ?_ (ofBits_pw 128 (by norm_num) (by norm_num) _ (by decide))
  refine rungV_rung _ _ _ r k _ _ 2 rfl ?_ (ofBits_pw 129 (by norm_num) (by norm_num) _ (by decide))
  refine rungV_rung _ _ _ r k _ _ 4 rfl ?_ (ofBits_pw 131 (by norm_num) (by norm_num) _ (by decide))
  refine rungV_rung _ _ _ r k _ _ 8 rfl ?_ (ofBits_pw 135 (by norm_num) (by norm_num) _ (by decide))
  refine rungV_rung _ _ _ r k _ _ 16 rfl ?_ (ofBits_pw 143 (by norm_num) (by norm_num) _ (by decide))
  refine rungV_rung _ _ _ r k _ _ 32 rfl ?_ (ofBits_pw 159 (by norm_num) (by norm_num) _ (by decide))
  refine rungV_rung _ _ _ r k _ _ 64 rfl ?_ (ofBits_pw 191 (by norm_num) (by norm_num) _ (by decide))
  refine rungV_rung _ _ _ r k _ _ 126 rfl ?_ (ofBits_pw 253 (by norm_num) (by norm_num) _ (by decide))
  exact (splat_at _ r k).trans ofBits_least

theorem choose_at (x p : FVec Ideal S32x128 .f32) (b : BitVec 32) (r : Fin 32) (k : Fin 128) :
    select (cmpf .olt x (splat b)) (splat 0x3F800000#32) p (ix2 r k) = (if x (ix2 r k) < Ideal.ofBits .f32 b then 1 else p (ix2 r k) : EReal) := by
  pointwise

theorem scaleV_at (x : FVec Ideal S32x128 .f32) (r : Fin 32) (k : Fin 128) : scaleV x (ix2 r k) = scaleTable (x (ix2 r k)) := by
  refine (choose_at x _ _ r k).trans ?_
  rw [mul_splat_at, ladderV_at, ofBits_two, ofBits_least, ← scaleOf_eq]
  rfl

theorem div_splat_at (x : FVec Ideal S32x128 .f32) (b : BitVec 32) (r : Fin 32) (k : Fin 128) :
    divf (splat b) x (ix2 r k) = Ideal.div (Ideal.ofBits .f32 b) (x (ix2 r k)) := by
  pointwise

theorem invV_at (x : FVec Ideal S32x128 .f32) (r : Fin 32) (k : Fin 128) : invV x (ix2 r k) = Ideal.div 1 (scaleTable (x (ix2 r k))) := by
  refine (choose_at x _ _ r k).trans ?_
  rw [div_splat_at, ladderV_at, ofBits_half, ofBits_least, ← invOf_eq]
  rfl

theorem cat4_at {φ : FTy} (a b c d : FVec Ideal S32x128 φ) (f : Fin 128 → EReal) (k : Fin 128)
    (ha : ∀ r : Fin 32, a (ix2 r k) = f ⟨r, by omega⟩) (hb : ∀ r : Fin 32, b (ix2 r k) = f ⟨32 + r, by omega⟩)
    (hc : ∀ r : Fin 32, c (ix2 r k) = f ⟨64 + r, by omega⟩) (hd : ∀ r : Fin 32, d (ix2 r k) = f ⟨96 + r, by omega⟩) (r : Fin 128) :
    cat4 a b c d (ix2 r k) = f r := by
  pointwise [cat4]
  by_cases h1 : r.val < 32
  · rw [dif_pos h1]
    exact ha ⟨r, h1⟩
  rw [dif_neg h1]
  by_cases h2 : r.val - 32 < 32
  · rw [dif_pos h2]
    exact (hb ⟨r - 32, h2⟩).trans (congrArg f (Fin.ext (show 32 + (r.val - 32) = r.val by omega)))
  rw [dif_neg h2]
  by_cases h3 : r.val - 32 - 32 < 32
  · rw [dif_pos h3]
    exact (hc ⟨r - 32 - 32, h3⟩).trans (congrArg f (Fin.ext (show 64 + (r.val - 32 - 32) = r.val by omega)))
  rw [dif_neg h3]
  exact (hd ⟨r - 32 - 32 - 32, by omega⟩).trans (congrArg f (Fin.ext (show 96 + (r.val - 32 - 32 - 32) = r.val by omega)))

theorem quantV_at (v inv : FVec Ideal S128x128 .f32) (sc : FVec Ideal S128x128 .bf16) (r k : Fin 128) :
    quantV v inv sc (ix2 r k) = (min (Ideal.ofBits .f32 0x47600000#32) (max (Ideal.ofBits .f32 0xC7600000#32) (v (ix2 r k) * inv (ix2 r k)))
      * sc (ix2 r k) : EReal) := by
  pointwise [quantV]

/-- 32 rows of a block, from row `a`. -/
def rowsOf (Z : Vec Ideal S1x768x1024 .f32) (a : ℕ) (h : a + 32 ≤ 768) : Vec Ideal S1x32x1024 .f32 :=
  View.ld Z (Rect.unit (s := S1x768x1024) ![0, a, 0] ![1, 32, 1024] (by intro i; fin_cases i <;> simp [S1x768x1024] <;> omega))

/-- A 128-by-128 piece of a block, from row `a` and column `b`. -/
def pieceOf (Z : Vec Ideal S1x768x1024 .f32) (a b : ℕ) (ha : a + 128 ≤ 768) (hb : b + 128 ≤ 1024) : FVec Ideal S128x128 .f32 :=
  shapeCast S128x128 (View.ld Z (Rect.unit (s := S1x768x1024) ![0, a, b] ![1, 128, 128] (by intro i; fin_cases i <;> simp [S1x768x1024] <;> omega)) :
    Vec Ideal S1x128x128 .f32) shapeCasts_S1x128x128_S128x128

/-- 128 lanes of the weights' scales, from lane `b`, over 128 rows. -/
def lanesOf (W : Vec Ideal S1x1x1024 .f32) (b : ℕ) (hb : b + 128 ≤ 1024) : FVec Ideal S128x128 .bf16 :=
  broadcastTo S128x128 (truncf .bf16 (shapeCast S1x128 (View.ld W (Rect.unit (s := S1x1x1024) ![0, 0, b] ![1, 1, 128]
    (by intro i; fin_cases i <;> simp [S1x1x1024] <;> omega)) : Vec Ideal S1x1x128 .f32) shapeCasts_S1x1x128_S1x128 : FVec Ideal S1x128 .f32) bitsLt_bf16_f32)
    broadcasts_S1x128_S128x128

/-- A tile of the quantised block. -/
def tileG (Z : Vec Ideal S1x768x1024 .f32) (a b : ℕ) (ha : a + 128 ≤ 768) (hb : b + 128 ≤ 1024) : FVec Ideal S128x128 .bf16 :=
  quantV (pieceOf Z a b ha hb)
    (cat4 (invV (amaxV (rowsOf Z a (by omega)))) (invV (amaxV (rowsOf Z (a + 32) (by omega)))) (invV (amaxV (rowsOf Z (a + 64) (by omega))))
      (invV (amaxV (rowsOf Z (a + 96) (by omega)))))
    (cat4 (truncf .bf16 (scaleV (amaxV (rowsOf Z a (by omega)))) bitsLt_bf16_f32) (truncf .bf16 (scaleV (amaxV (rowsOf Z (a + 32) (by omega)))) bitsLt_bf16_f32)
      (truncf .bf16 (scaleV (amaxV (rowsOf Z (a + 64) (by omega)))) bitsLt_bf16_f32)
      (truncf .bf16 (scaleV (amaxV (rowsOf Z (a + 96) (by omega)))) bitsLt_bf16_f32))

/-- What is stored for the hidden product: the tile times the weights' scales. -/
def tileGp (Z : Vec Ideal S1x768x1024 .f32) (W : Vec Ideal S1x1x1024 .f32) (a b : ℕ) (ha : a + 128 ≤ 768) (hb : b + 128 ≤ 1024) :
    FVec Ideal S128x128 .bf16 :=
  shapeCast S128x128 (mulf (tileG Z a b ha hb) (lanesOf W b hb)) shapeCasts_S128x128_S128x128

/-- What is stored for the head product: the tile transposed. -/
def tileGt (Z : Vec Ideal S1x768x1024 .f32) (a b : ℕ) (ha : a + 128 ≤ 768) (hb : b + 128 ≤ 1024) : FVec Ideal S128x128 .bf16 :=
  shapeCast S128x128 (transpose S128x128 [1, 0] (tileG Z a b ha hb) transposes_S128x128_p1_0_S128x128) shapeCasts_S128x128_S128x128

theorem rowsOf_at (Z : Vec Ideal S1x768x1024 .f32) (a : ℕ) (h : a + 32 ≤ 768) (r : Fin 32) (k : Fin 1024) :
    rowsOf Z a h (ix3 0 r k) = Z (ix3 0 ⟨a + r, by omega⟩ k) := by
  refine View.ld_unit_apply_of _ _ _ _ _ _ fun i => ?_
  fin_cases i
  · rfl
  · rfl
  · exact (Nat.zero_add _).symm

theorem flat_at (z : Vec Ideal S1x128x128 .f32) (r k : Fin 128) :
    (shapeCast S128x128 z shapeCasts_S1x128x128_S128x128 : FVec Ideal S128x128 .f32) (ix2 r k) = z (ix3 0 r k) := by
  pointwise

theorem over_at (w : Vec Ideal S1x1x128 .f32) (r k : Fin 128) :
    (broadcastTo S128x128 (truncf .bf16 (shapeCast S1x128 w shapeCasts_S1x1x128_S1x128 : FVec Ideal S1x128 .f32) bitsLt_bf16_f32)
      broadcasts_S1x128_S128x128 : FVec Ideal S128x128 .bf16) (ix2 r k) = w (ix3 0 0 k) := by
  pointwise

theorem pieceOf_at (Z : Vec Ideal S1x768x1024 .f32) (a b : ℕ) (ha : a + 128 ≤ 768) (hb : b + 128 ≤ 1024) (r k : Fin 128) :
    pieceOf Z a b ha hb (ix2 r k) = Z (ix3 0 ⟨a + r, by omega⟩ ⟨b + k, by omega⟩) := by
  refine (flat_at _ r k).trans (View.ld_unit_apply_of _ _ _ _ _ _ fun i => ?_)
  fin_cases i
  · rfl
  · rfl
  · rfl

theorem lanesOf_at (W : Vec Ideal S1x1x1024 .f32) (b : ℕ) (hb : b + 128 ≤ 1024) (r k : Fin 128) :
    lanesOf W b hb (ix2 r k) = W (ix3 0 0 ⟨b + k, by omega⟩) := by
  refine (over_at _ r k).trans (View.ld_unit_apply_of _ _ _ _ _ _ fun i => ?_)
  fin_cases i
  · rfl
  · rfl
  · rfl

theorem truncf_at (v : FVec Ideal S32x128 .f32) (r : Fin 32) (k : Fin 128) : truncf .bf16 v bitsLt_bf16_f32 (ix2 r k) = v (ix2 r k) := by
  pointwise

theorem scaled_rows (Z : Vec Ideal S1x768x1024 .f32) (a a' : ℕ) (h : a + 32 ≤ 768) (r : Fin 32) (k : Fin 128) (R : Fin 768) (hR : R.val = a + r) :
    truncf .bf16 (scaleV (amaxV (rowsOf Z a h))) bitsLt_bf16_f32 (ix2 r k) = sOf fun k => Z (ix3 0 R k) := by
  rw [truncf_at, scaleV_at, amaxV_at]
  unfold sOf
  simp only [rowsOf_at]
  rw [show (⟨a + r, by omega⟩ : Fin 768) = R from Fin.ext hR.symm]

theorem inv_rows (Z : Vec Ideal S1x768x1024 .f32) (a : ℕ) (h : a + 32 ≤ 768) (r : Fin 32) (k : Fin 128) (R : Fin 768) (hR : R.val = a + r) :
    invV (amaxV (rowsOf Z a h)) (ix2 r k) = Ideal.div 1 (sOf fun k => Z (ix3 0 R k)) := by
  rw [invV_at, amaxV_at]
  unfold sOf
  simp only [rowsOf_at]
  rw [show (⟨a + r, by omega⟩ : Fin 768) = R from Fin.ext hR.symm]

theorem tileG_at (Z : Vec Ideal S1x768x1024 .f32) (a b : ℕ) (ha : a + 128 ≤ 768) (hb : b + 128 ≤ 1024) (r k : Fin 128) :
    tileG Z a b ha hb (ix2 r k) = gOf (fun k => Z (ix3 0 ⟨a + r, by omega⟩ k)) ⟨b + k, by omega⟩ := by
  unfold tileG
  rw [quantV_at, pieceOf_at,
    cat4_at _ _ _ _ (fun r => Ideal.div 1 (sOf fun k => Z (ix3 0 ⟨a + r, by omega⟩ k))) k
      (fun r => inv_rows Z _ _ r k _ rfl) (fun r => inv_rows Z _ _ r k _ (by simp only; omega)) (fun r => inv_rows Z _ _ r k _ (by simp only; omega))
      (fun r => inv_rows Z _ _ r k _ (by simp only; omega)) r,
    cat4_at _ _ _ _ (fun r => sOf fun k => Z (ix3 0 ⟨a + r, by omega⟩ k)) k
      (fun r => scaled_rows Z _ 0 _ r k _ rfl) (fun r => scaled_rows Z _ 0 _ r k _ (by simp only; omega))
      (fun r => scaled_rows Z _ 0 _ r k _ (by simp only; omega)) (fun r => scaled_rows Z _ 0 _ r k _ (by simp only; omega)) r]
  unfold gOf
  rw [min_comm, max_comm]

theorem mul_at (v w : FVec Ideal S128x128 .bf16) (x : S128x128.Idx) :
    shapeCast S128x128 (mulf v w) shapeCasts_S128x128_S128x128 x = (v x * w x : EReal) := by
  pointwise

theorem tr_at (v : FVec Ideal S128x128 .bf16) (r k : Fin 128) :
    shapeCast S128x128 (transpose S128x128 [1, 0] v transposes_S128x128_p1_0_S128x128) shapeCasts_S128x128_S128x128 (ix2 r k) = v (ix2 k r) := by
  pointwise

/-- A stored tile at an index of the array: row `r`, column `k`. -/
theorem tileGp_at (Z : Vec Ideal S1x768x1024 .f32) (W : Vec Ideal S1x1x1024 .f32) {a b : ℕ} {ha : a + 128 ≤ 768} {hb : b + 128 ≤ 1024}
    (x : S128x128.Idx) (r : Fin 768) (k : Fin 1024) (hr : r.val = a + x 0) (hk : k.val = b + x 1) :
    tileGp Z W a b ha hb x = gOf (fun k => Z (ix3 0 r k)) k * W (ix3 0 0 k) := by
  idx_vars x
  obtain ⟨r, hr'⟩ := r
  obtain rfl : r = _ := hr
  obtain ⟨k, hk'⟩ := k
  obtain rfl : k = _ := hk
  unfold tileGp
  rw [mul_at, tileG_at, lanesOf_at]

theorem tileGt_at (Z : Vec Ideal S1x768x1024 .f32) {a b : ℕ} {ha : a + 128 ≤ 768} {hb : b + 128 ≤ 1024}
    (x : S128x128.Idx) (r : Fin 768) (k : Fin 1024) (hk : k.val = b + x 0) (hr : r.val = a + x 1) :
    tileGt Z a b ha hb x = gOf (fun k => Z (ix3 0 r k)) k := by
  idx_vars x
  obtain ⟨r, hr'⟩ := r
  obtain rfl : r = _ := hr
  obtain ⟨k, hk'⟩ := k
  obtain rfl : k = _ := hk
  unfold tileGt
  rw [tr_at, tileG_at]

end Cert.KernelIdeal.Value

end
-- ==== Proof.KernelScratch.lean ====
/- What the two scratch pairs hold after a point: the point's block quantised, plainly (for the head product) and times the
   weights' scales (for the hidden product). -/
module

public import proofs.«01_k».proof.Proof.Gen.KernelIdeal.Value
public import proofs.«01_k».proof.Proof.KernelTile

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Cert.Scale

variable (m : (ℓ : Loc nD τ sig) → Buf (Elt Ideal) ℓ)

/-- The block of point `t`, quantised. -/
def G (c : Dev nD) (t : Fin cfg0.N) (r : Fin 768) (k : Fin 1024) : EReal :=
  gOf (fun k => (iblk m c 0 t : Vec Ideal S1x768x1024 .f32) (ix3 0 r k)) k

/-- The block of point `t`, quantised and times the weights' scales. -/
def GW (c : Dev nD) (t : Fin cfg0.N) (r : Fin 768) (k : Fin 1024) : EReal :=
  G m c t r k * (iblk m c 2 t : Vec Ideal S1x1x1024 .f32) (ix3 0 0 k)

theorem gp0_A (c : Dev nD) (t : Fin cfg0.N) (g0 : t.val % 65 = 0) (g1 : ¬t.val % 2 = 1) (g2 : ¬(1 ≤ t.val % 65 ∧ t.val % 65 ≤ 63)) (g3 : ¬t.val % 65 = 64)
    (r : Fin 768) (k : Fin 1024) :
    (outsAt0 m c t.val t.isLt).2.2.2.1 (ix2 r k) = GW m c t r k := by
  rw [outsAt0_A m c t g0 g1 g2 g3]
  dsimp only
  frame_out
  clear g0 g1 g2 g3
  canon_tiles x h
  all_goals try replace h0 : (ix2 r k 0).val = 0 + (x 0).val := h0.trans (Nat.zero_add _).symm
  all_goals try replace h1 : (ix2 r k 1).val = 0 + (x 1).val := h1.trans (Nat.zero_add _).symm
  all_goals refine Eq.trans ?_ (tileGp_at (iblk m c 0 t) (iblk m c 2 t) (ha := by decide) (hb := by decide) x r k h0 h1)
  all_goals sl_kernel_rfl

theorem gt0_A (c : Dev nD) (t : Fin cfg0.N) (g0 : t.val % 65 = 0) (g1 : ¬t.val % 2 = 1) (g2 : ¬(1 ≤ t.val % 65 ∧ t.val % 65 ≤ 63)) (g3 : ¬t.val % 65 = 64)
    (k : Fin 1024) (r : Fin 768) :
    (outsAt0 m c t.val t.isLt).2.2.2.2.2.1 (ix2 k r) = G m c t r k := by
  rw [outsAt0_A m c t g0 g1 g2 g3]
  dsimp only
  frame_out
  clear g0 g1 g2 g3
  canon_tiles x h
  all_goals try replace h0 : (ix2 k r 0).val = 0 + (x 0).val := h0.trans (Nat.zero_add _).symm
  all_goals try replace h1 : (ix2 k r 1).val = 0 + (x 1).val := h1.trans (Nat.zero_add _).symm
  all_goals refine Eq.trans ?_ (tileGt_at (iblk m c 0 t) (ha := by decide) (hb := by decide) x r k h0 h1)
  all_goals sl_kernel_rfl

theorem gp1_B (c : Dev nD) (t : Fin cfg0.N) (g0 : ¬t.val % 65 = 0) (g1 : t.val % 2 = 1) (g2 : 1 ≤ t.val % 65 ∧ t.val % 65 ≤ 63) (g3 : ¬t.val % 65 = 64) (g4 : ¬t.val % 2 = 0)
    (r : Fin 768) (k : Fin 1024) :
    (outsAt0 m c t.val t.isLt).2.2.2.2.1 (ix2 r k) = GW m c t r k := by
  rw [outsAt0_B m c t g0 g1 g2 g3 g4]
  dsimp only
  frame_out
  clear g0 g1 g2 g3 g4
  canon_tiles x h
  all_goals try replace h0 : (ix2 r k 0).val = 0 + (x 0).val := h0.trans (Nat.zero_add _).symm
  all_goals try replace h1 : (ix2 r k 1).val = 0 + (x 1).val := h1.trans (Nat.zero_add _).symm
  all_goals refine Eq.trans ?_ (tileGp_at (iblk m c 0 t) (iblk m c 2 t) (ha := by decide) (hb := by decide) x r k h0 h1)
  all_goals sl_kernel_rfl

theorem gt1_B (c : Dev nD) (t : Fin cfg0.N) (g0 : ¬t.val % 65 = 0) (g1 : t.val % 2 = 1) (g2 : 1 ≤ t.val % 65 ∧ t.val % 65 ≤ 63) (g3 : ¬t.val % 65 = 64) (g4 : ¬t.val % 2 = 0)
    (k : Fin 1024) (r : Fin 768) :
    (outsAt0 m c t.val t.isLt).2.2.2.2.2.2 (ix2 k r) = G m c t r k := by
  rw [outsAt0_B m c t g0 g1 g2 g3 g4]
  dsimp only
  frame_out
  clear g0 g1 g2 g3 g4
  canon_tiles x h
  all_goals try replace h0 : (ix2 k r 0).val = 0 + (x 0).val := h0.trans (Nat.zero_add _).symm
  all_goals try replace h1 : (ix2 k r 1).val = 0 + (x 1).val := h1.trans (Nat.zero_add _).symm
  all_goals refine Eq.trans ?_ (tileGt_at (iblk m c 0 t) (ha := by decide) (hb := by decide) x r k h0 h1)
  all_goals sl_kernel_rfl

theorem gp0_C (c : Dev nD) (t : Fin cfg0.N) (g0 : ¬t.val % 65 = 0) (g1 : ¬t.val % 2 = 1) (g2 : 1 ≤ t.val % 65 ∧ t.val % 65 ≤ 63) (g3 : ¬t.val % 65 = 64) (g4 : t.val % 2 = 0)
    (r : Fin 768) (k : Fin 1024) :
    (outsAt0 m c t.val t.isLt).2.2.2.1 (ix2 r k) = GW m c t r k := by
  rw [outsAt0_C m c t g0 g1 g2 g3 g4]
  dsimp only
  frame_out
  clear g0 g1 g2 g3 g4
  canon_tiles x h
  all_goals try replace h0 : (ix2 r k 0).val = 0 + (x 0).val := h0.trans (Nat.zero_add _).symm
  all_goals try replace h1 : (ix2 r k 1).val = 0 + (x 1).val := h1.trans (Nat.zero_add _).symm
  all_goals refine Eq.trans ?_ (tileGp_at (iblk m c 0 t) (iblk m c 2 t) (ha := by decide) (hb := by decide) x r k h0 h1)
  all_goals sl_kernel_rfl

theorem gt0_C (c : Dev nD) (t : Fin cfg0.N) (g0 : ¬t.val % 65 = 0) (g1 : ¬t.val % 2 = 1) (g2 : 1 ≤ t.val % 65 ∧ t.val % 65 ≤ 63) (g3 : ¬t.val % 65 = 64) (g4 : t.val % 2 = 0)
    (k : Fin 1024) (r : Fin 768) :
    (outsAt0 m c t.val t.isLt).2.2.2.2.2.1 (ix2 k r) = G m c t r k := by
  rw [outsAt0_C m c t g0 g1 g2 g3 g4]
  dsimp only
  frame_out
  clear g0 g1 g2 g3 g4
  canon_tiles x h
  all_goals try replace h0 : (ix2 k r 0).val = 0 + (x 0).val := h0.trans (Nat.zero_add _).symm
  all_goals try replace h1 : (ix2 k r 1).val = 0 + (x 1).val := h1.trans (Nat.zero_add _).symm
  all_goals refine Eq.trans ?_ (tileGt_at (iblk m c 0 t) (ha := by decide) (hb := by decide) x r k h0 h1)
  all_goals sl_kernel_rfl

end Cert.KernelIdeal.Value

end
-- ==== Proof.KernelPiece.lean ====
/- The kernel's other stores, as vectors: a piece of the head's product, of the hidden product, and 32 rows of the scales;
   and what each holds at an index. -/
module

public import proofs.«01_k».proof.Proof.KernelTile

@[expose] public section

set_option maxRecDepth 16384

noncomputable section

namespace Cert.KernelIdeal.Value

open Cert.KernelIdeal Cert.KernelIdeal.Gen Idealize.ShloMosaic Idealize.ShloMosaic.TcCoe Idealize.SL.Sem
open Cert.Scale

theorem head_dot_at (P : Vec Ideal S1024x768 .bf16) (H : Vec Ideal S768x256 .bf16) (k : Fin 1024) (d : Fin 256) :
    (matmul (φ₁ := .bf16) (φ₂ := .bf16) dot_S1024x768_S768x256_S1024x256_1_0_0_1_n_n none P H (constant S1024x256 .f32 0x00000000#32) :
        FVec Ideal S1024x256 .f32) (ix2 k d)
      = ∑ r : Fin 768, (P (ix2 k r) * H (ix2 r d) : EReal) := by
  pointwise

theorem hid_dot_at (A : Vec Ideal S768x256 .f32) (P : Vec Ideal S768x1024 .bf16) (W : Vec Ideal S1024x256 .fp8e4m3) (r : Fin 768) (d : Fin 256) :
    addf (shapeCast S768x256 A shapeCasts_S768x256_S768x256 : FVec Ideal S768x256 .f32)
        (matmul (φ₁ := .bf16) (φ₂ := .fp8e4m3) dot_S768x1024_S1024x256_S768x256_1_0_0_1_n_n none P W (constant S768x256 .f32 0x00000000#32)) (ix2 r d)
      = (A (ix2 r d) + ∑ k : Fin 1024, P (ix2 r k) * W (ix2 k d) : EReal) := by
  pointwise

/-- 256 columns of the head's product, from column `b`. -/
def headTile (P : Vec Ideal S1024x768 .bf16) (H : Vec Ideal S768x1536 .bf16) (b : ℕ) (hb : b + 256 ≤ 1536) : FVec Ideal S1024x256 .f32 :=
  matmul (φ₁ := .bf16) (φ₂ := .bf16) dot_S1024x768_S768x256_S1024x256_1_0_0_1_n_n none P
    (View.ld H (Rect.unit (s := S768x1536) ![0, b] ![768, 256] (by intro i; fin_cases i <;> simp [S768x1536] <;> omega)) : Vec Ideal S768x256 .bf16)
    (constant S1024x256 .f32 0x00000000#32)

/-- 256 columns of the hidden product, from column `b`, added to what is there. -/
def hidTile (A : Vec Ideal S768x1536 .f32) (P : Vec Ideal S768x1024 .bf16) (W : Vec Ideal S1024x1536 .fp8e4m3) (b : ℕ) (hb : b + 256 ≤ 1536) :
    FVec Ideal S768x256 .f32 :=
  addf (shapeCast S768x256
      (View.ld A (Rect.unit (s := S768x1536) ![0, b] ![768, 256] (by intro i; fin_cases i <;> simp [S768x1536] <;> omega)) : Vec Ideal S768x256 .f32)
      shapeCasts_S768x256_S768x256 : FVec Ideal S768x256 .f32)
    (matmul (φ₁ := .bf16) (φ₂ := .fp8e4m3) dot_S768x1024_S1024x256_S768x256_1_0_0_1_n_n none P
      (View.ld W (Rect.unit (s := S1024x1536) ![0, b] ![1024, 256] (by intro i; fin_cases i <;> simp [S1024x1536] <;> omega)) : Vec Ideal S1024x256 .fp8e4m3)
      (constant S768x256 .f32 0x00000000#32))

theorem headTile_at (P : Vec Ideal S1024x768 .bf16) (H : Vec Ideal S768x1536 .bf16) {b : ℕ} {hb : b + 256 ≤ 1536} (x : S1024x256.Idx)
    (k : Fin 1024) (d : Fin 1536) (hk : k.val = (x 0).val) (hd : d.val = b + (x 1).val) :
    headTile P H b hb x = ∑ r : Fin 768, (P (ix2 k r) * H (ix2 r d) : EReal) := by
  idx_vars x
  obtain rfl : k = x0 := Fin.ext hk
  refine (head_dot_at _ _ k x1).trans (Fin.sum_fin_congr fun r => ?_)
  refine congrArg (P (ix2 k r) * ·) (View.ld_unit_apply_of _ _ _ _ _ _ fun i => ?_)
  fin_cases i
  · exact (Nat.zero_add _).symm
  · exact hd

theorem hidTile_at (A : Vec Ideal S768x1536 .f32) (P : Vec Ideal S768x1024 .bf16) (W : Vec Ideal S1024x1536 .fp8e4m3) {b : ℕ} {hb : b + 256 ≤ 1536}
    (x : S768x256.Idx) (r : Fin 768) (d : Fin 1536) (hr : r.val = (x 0).val) (hd : d.val = b + (x 1).val) :
    hidTile A P W b hb x = (A (ix2 r d) + ∑ k : Fin 1024, P (ix2 r k) * W (ix2 k d) : EReal) := by
  idx_vars x
  obtain rfl : r = x0 := Fin.ext hr
  refine (hid_dot_at _ _ _ r x1).trans (congrArg₂ (fun a b : EReal => a + b) ?_ (Fin.sum_fin_congr fun k => congrArg (P (ix2 r k) * ·) ?_))
  · refine View.ld_unit_apply_of _ _ _ _ _ _ fun i => ?_
    fin_cases i
    · exact (Nat.zero_add _).symm
    · exact hd
  · refine View.ld_unit_apply_of _ _ _ _ _ _ fun i => ?_
    fin_cases i
    · exact (Nat.zero_add _).symm
    · exact hd

theorem lane_at (n : BitVec 32) (S O : FVec Ideal S32x128 .f32) (r : Fin 32) (l : Fin 128) :
    select (cmpi .eq (iota Kind.tc S32x128 32 [1] iota_S32x128_d1_w32) (broadcast S32x128 n)) S (shapeCast S32x128 O shapeCasts_S32x128_S32x128) (ix2 r l)
      = (if BitVec.ofNat 32 l.val = n then S (ix2 r l) else O (ix2 r l) : EReal) := by
  pointwise
  by_cases h : BitVec.ofNat 32 l.val = n
  · simp [Scalar.select, IntOp.cmpi, h]
  · simp [Scalar.select, IntOp.cmpi, h, beq_eq_false_iff_ne.2 h]

/-- 32 rows of the scales, from row `a`: lane `n` takes the block's scales, the others keep what is there. -/
def sclTile (Z : Vec Ideal S1x768x1024 .f32) (O : Vec Ideal S32x128 .f32) (n : BitVec 32) (a : ℕ) (ha : a + 32 ≤ 768) : FVec Ideal S32x128 .f32 :=
  select (cmpi .eq (iota Kind.tc S32x128 32 [1] iota_S32x128_d1_w32) (broadcast S32x128 n)) (scaleV (amaxV (rowsOf Z a ha)))
    (shapeCast S32x128 O shapeCasts_S32x128_S32x128)

theorem sclTile_at (Z : Vec Ideal S1x768x1024 .f32) (O : Vec Ideal S32x128 .f32) (q : ℕ) (hq : q < 65) {a : ℕ} {ha : a + 32 ≤ 768}
    (x : S32x128.Idx) (r : Fin 768) (l : Fin 128) (hr : r.val = a + (x 0).val) (hl : l.val = (x 1).val) :
    sclTile Z O (BitVec.ofNat 32 q) a ha x = (if l.val = q then sOf (fun k => Z (ix3 0 r k)) else O x : EReal) := by
  idx_vars x
  obtain rfl : l = x1 := Fin.ext hl
  refine (lane_at _ _ _ x0 l).trans ?_
  have e : (BitVec.ofNat 32 l.val = BitVec.ofNat 32 q) ↔ l.val = q := by
    constructor
    · intro h
      have := congrArg BitVec.toNat h
      simp only [BitVec.toNat_ofNat] at this
      omega
    · intro h; rw [h]
  obtain ⟨r, hr'⟩ := r
  obtain rfl : r = _ := hr
  by_cases h : l.val = q
  · rw [if_pos (e.2 h), if_pos h, scaleV_at, amaxV_at]
    unfold sOf
    exact congrArg (fun f => scaleTable (xOf f)) (funext fun k => rowsOf_at Z a ha x0 k)
  · rw [if_neg (mt e.1 h), if_neg h]

/-- `sclTile` over the same rows of `A`. -/
def sclRows (Z : Vec Ideal S1x768x1024 .f32) (A : Vec Ideal S768x128 .f32) (n : BitVec 32) (a : ℕ) (ha : a + 32 ≤ 768) : FVec Ideal S32x128 .f32 :=
  sclTile Z (View.ld A (Rect.unit (s := S768x128) ![a, 0] ![32, 128] (by intro i; fin_cases i <;> simp [S768x128] <;> omega)) : Vec Ideal S32x128 .f32) n a ha

theorem sclRows_at (Z : Vec Ideal S1x768x1024 .f32) (A : Vec Ideal S768x128 .f32) (q : ℕ) (hq : q < 65) {a : ℕ} {ha : a + 32 ≤ 768}
    (x : S32x128.Idx) (r : Fin 768) (l : Fin 128) (hr : r.val = a + (x 0).val) (hl : l.val = (x 1).val) :
    sclRows Z A (BitVec.ofNat 32 q) a ha x = (if l.val = q then sOf (fun k => Z (ix3 0 r k)) else A (ix2 r l) : EReal) := by
  refine (sclTile_at Z _ q hq x r l hr hl).trans (congrArg (fun o : EReal => if l.val = q then sOf (fun k => Z (ix3 0 r k)) else o) ?_)
  refine View.ld_unit_apply_of _ _ _ _ _ _ fun i => ?_
  fin_cases i
  · exact hr
  · exact hl.trans (Nat.zero_add _).symm

theorem zero_at (i : S768x1536.Idx) : k0_pay4 (F := Ideal) i = (0 : EReal) := by
  pointwise [k0_pay4]

theorem one_at (i : S768x128.Idx) : k0_pay5 (F := Ideal) i = (1 : EReal) := by
  pointwise [k0_pay5]

theorem kept_at (A : Vec Ideal S768x128 .f32) (i : S768x128.Idx) : k0_pay1156 A i = A i := by
  pointwise [k0_pay1156]

end Cert.KernelIdeal.Value

end
-- ==== Proof.KernelState.lean ====
/- What a point leaves in each output window, by the case it runs: the head's product of the scratch the point before left,
   the hidden product added to, and one lane of the scales. -/
module

public import proofs.«01_k».proof.Proof.Gen.KernelIdeal.Value
public import proofs.«01_k».proof.Proof.KernelPiece
public import Idealize.ShloMosaic.Lib.Pipeline.ReadBack

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Cert.Scale

variable (m : (ℓ : Loc nD τ sig) → Buf (Elt Ideal) ℓ)

theorem head_B (c : Dev nD) (t : Fin cfg0.N) (g0 : ¬t.val % 65 = 0) (g1 : t.val % 2 = 1) (g2 : 1 ≤ t.val % 65 ∧ t.val % 65 ≤ 63) (g3 : ¬t.val % 65 = 64) (g4 : ¬t.val % 2 = 0)
    (k : Fin 1024) (d : Fin 1536) :
    (outsAt0 m c t.val t.isLt).1 (ix2 k d)
      = ∑ r : Fin 768, ((outsAt0 m c (t.val - 1) (Nat.lt_of_le_of_lt (Nat.sub_le _ _) t.isLt)).2.2.2.2.2.1 (ix2 k r) * (iblk m c 3 t : Vec Ideal S768x1536 .bf16) (ix2 r d) : EReal) := by
  rw [outsAt0_B m c t g0 g1 g2 g3 g4]
  dsimp only
  frame_out
  clear g0 g1 g2 g3 g4
  simp only [read_unread_whole]
  canon_tiles x h
  all_goals try replace h1 : (ix2 k d 1).val = 0 + (x 1).val := h1.trans (Nat.zero_add _).symm
  all_goals refine Eq.trans ?_ (headTile_at (outsAt0 m c (t.val - 1) (Nat.lt_of_le_of_lt (Nat.sub_le _ _) t.isLt)).2.2.2.2.2.1 (iblk m c 3 t) (hb := by decide) x k d h0 h1)
  all_goals sl_kernel_rfl

theorem head_C (c : Dev nD) (t : Fin cfg0.N) (g0 : ¬t.val % 65 = 0) (g1 : ¬t.val % 2 = 1) (g2 : 1 ≤ t.val % 65 ∧ t.val % 65 ≤ 63) (g3 : ¬t.val % 65 = 64) (g4 : t.val % 2 = 0)
    (k : Fin 1024) (d : Fin 1536) :
    (outsAt0 m c t.val t.isLt).1 (ix2 k d)
      = ∑ r : Fin 768, ((outsAt0 m c (t.val - 1) (Nat.lt_of_le_of_lt (Nat.sub_le _ _) t.isLt)).2.2.2.2.2.2 (ix2 k r) * (iblk m c 3 t : Vec Ideal S768x1536 .bf16) (ix2 r d) : EReal) := by
  rw [outsAt0_C m c t g0 g1 g2 g3 g4]
  dsimp only
  frame_out
  clear g0 g1 g2 g3 g4
  simp only [read_unread_whole]
  canon_tiles x h
  all_goals try replace h1 : (ix2 k d 1).val = 0 + (x 1).val := h1.trans (Nat.zero_add _).symm
  all_goals refine Eq.trans ?_ (headTile_at (outsAt0 m c (t.val - 1) (Nat.lt_of_le_of_lt (Nat.sub_le _ _) t.isLt)).2.2.2.2.2.2 (iblk m c 3 t) (hb := by decide) x k d h0 h1)
  all_goals sl_kernel_rfl

theorem head_D (c : Dev nD) (t : Fin cfg0.N) (g0 : ¬t.val % 65 = 0) (g1 : ¬t.val % 2 = 1) (g2 : ¬(1 ≤ t.val % 65 ∧ t.val % 65 ≤ 63)) (g3 : t.val % 65 = 64)
    (k : Fin 1024) (d : Fin 1536) :
    (outsAt0 m c t.val t.isLt).1 (ix2 k d)
      = ∑ r : Fin 768, ((outsAt0 m c (t.val - 1) (Nat.lt_of_le_of_lt (Nat.sub_le _ _) t.isLt)).2.2.2.2.2.2 (ix2 k r) * (iblk m c 3 t : Vec Ideal S768x1536 .bf16) (ix2 r d) : EReal) := by
  rw [outsAt0_D m c t g0 g1 g2 g3]
  dsimp only
  frame_out
  clear g0 g1 g2 g3
  simp only [read_unread_whole]
  canon_tiles x h
  all_goals try replace h1 : (ix2 k d 1).val = 0 + (x 1).val := h1.trans (Nat.zero_add _).symm
  all_goals refine Eq.trans ?_ (headTile_at (outsAt0 m c (t.val - 1) (Nat.lt_of_le_of_lt (Nat.sub_le _ _) t.isLt)).2.2.2.2.2.2 (iblk m c 3 t) (hb := by decide) x k d h0 h1)
  all_goals sl_kernel_rfl

theorem hid_A (c : Dev nD) (t : Fin cfg0.N) (g0 : t.val % 65 = 0) (g1 : ¬t.val % 2 = 1) (g2 : ¬(1 ≤ t.val % 65 ∧ t.val % 65 ≤ 63)) (g3 : ¬t.val % 65 = 64)
    (r : Fin 768) (d : Fin 1536) : (outsAt0 m c t.val t.isLt).2.1 (ix2 r d) = (0 : EReal) := by
  rw [outsAt0_A m c t g0 g1 g2 g3]
  dsimp only
  frame_out
  exact zero_at _

theorem hid_B (c : Dev nD) (t : Fin cfg0.N) (g0 : ¬t.val % 65 = 0) (g1 : t.val % 2 = 1) (g2 : 1 ≤ t.val % 65 ∧ t.val % 65 ≤ 63) (g3 : ¬t.val % 65 = 64) (g4 : ¬t.val % 2 = 0)
    (r : Fin 768) (d : Fin 1536) :
    (outsAt0 m c t.val t.isLt).2.1 (ix2 r d)
      = ((outsAt0 m c (t.val - 1) (Nat.lt_of_le_of_lt (Nat.sub_le _ _) t.isLt)).2.1 (ix2 r d)
        + ∑ k : Fin 1024, (outsAt0 m c (t.val - 1) (Nat.lt_of_le_of_lt (Nat.sub_le _ _) t.isLt)).2.2.2.1 (ix2 r k) * (iblk m c 1 t : Vec Ideal S1024x1536 .fp8e4m3) (ix2 k d) : EReal) := by
  rw [outsAt0_B m c t g0 g1 g2 g3 g4]
  dsimp only
  frame_out
  clear g0 g1 g2 g3 g4
  simp only [read_unread_whole]
  canon_tiles x h
  all_goals try replace h1 : (ix2 r d 1).val = 0 + (x 1).val := h1.trans (Nat.zero_add _).symm
  all_goals refine Eq.trans ?_ (hidTile_at (outsAt0 m c (t.val - 1) (Nat.lt_of_le_of_lt (Nat.sub_le _ _) t.isLt)).2.1 (outsAt0 m c (t.val - 1) (Nat.lt_of_le_of_lt (Nat.sub_le _ _) t.isLt)).2.2.2.1 (iblk m c 1 t) (hb := by decide) x r d h0 h1)
  all_goals sl_kernel_rfl

theorem hid_C (c : Dev nD) (t : Fin cfg0.N) (g0 : ¬t.val % 65 = 0) (g1 : ¬t.val % 2 = 1) (g2 : 1 ≤ t.val % 65 ∧ t.val % 65 ≤ 63) (g3 : ¬t.val % 65 = 64) (g4 : t.val % 2 = 0)
    (r : Fin 768) (d : Fin 1536) :
    (outsAt0 m c t.val t.isLt).2.1 (ix2 r d)
      = ((outsAt0 m c (t.val - 1) (Nat.lt_of_le_of_lt (Nat.sub_le _ _) t.isLt)).2.1 (ix2 r d)
        + ∑ k : Fin 1024, (outsAt0 m c (t.val - 1) (Nat.lt_of_le_of_lt (Nat.sub_le _ _) t.isLt)).2.2.2.2.1 (ix2 r k) * (iblk m c 1 t : Vec Ideal S1024x1536 .fp8e4m3) (ix2 k d) : EReal) := by
  rw [outsAt0_C m c t g0 g1 g2 g3 g4]
  dsimp only
  frame_out
  clear g0 g1 g2 g3 g4
  simp only [read_unread_whole]
  canon_tiles x h
  all_goals try replace h1 : (ix2 r d 1).val = 0 + (x 1).val := h1.trans (Nat.zero_add _).symm
  all_goals refine Eq.trans ?_ (hidTile_at (outsAt0 m c (t.val - 1) (Nat.lt_of_le_of_lt (Nat.sub_le _ _) t.isLt)).2.1 (outsAt0 m c (t.val - 1) (Nat.lt_of_le_of_lt (Nat.sub_le _ _) t.isLt)).2.2.2.2.1 (iblk m c 1 t) (hb := by decide) x r d h0 h1)
  all_goals sl_kernel_rfl

theorem hid_D (c : Dev nD) (t : Fin cfg0.N) (g0 : ¬t.val % 65 = 0) (g1 : ¬t.val % 2 = 1) (g2 : ¬(1 ≤ t.val % 65 ∧ t.val % 65 ≤ 63)) (g3 : t.val % 65 = 64)
    (r : Fin 768) (d : Fin 1536) :
    (outsAt0 m c t.val t.isLt).2.1 (ix2 r d)
      = ((outsAt0 m c (t.val - 1) (Nat.lt_of_le_of_lt (Nat.sub_le _ _) t.isLt)).2.1 (ix2 r d)
        + ∑ k : Fin 1024, (outsAt0 m c (t.val - 1) (Nat.lt_of_le_of_lt (Nat.sub_le _ _) t.isLt)).2.2.2.2.1 (ix2 r k) * (iblk m c 1 t : Vec Ideal S1024x1536 .fp8e4m3) (ix2 k d) : EReal) := by
  rw [outsAt0_D m c t g0 g1 g2 g3]
  dsimp only
  frame_out
  clear g0 g1 g2 g3
  simp only [read_unread_whole]
  canon_tiles x h
  all_goals try replace h1 : (ix2 r d 1).val = 0 + (x 1).val := h1.trans (Nat.zero_add _).symm
  all_goals refine Eq.trans ?_ (hidTile_at (outsAt0 m c (t.val - 1) (Nat.lt_of_le_of_lt (Nat.sub_le _ _) t.isLt)).2.1 (outsAt0 m c (t.val - 1) (Nat.lt_of_le_of_lt (Nat.sub_le _ _) t.isLt)).2.2.2.2.1 (iblk m c 1 t) (hb := by decide) x r d h0 h1)
  all_goals sl_kernel_rfl

/-- The oldest store is not seen at an index a later one covers. -/
theorem canon_dropLast {S : Shape} {e : EltTy} {Val : EltTy → Type} [∀ e, Nonempty (Val e)] : ∀ (L : List (View.Piece Val S e)) (y : S.Idx),
    (∃ p ∈ L.dropLast, y ∈ p.1.set) → View.canon L y = View.canon L.dropLast y
  | [], y, h => by obtain ⟨p, hp, _⟩ := h; exact absurd hp List.not_mem_nil
  | [q], y, h => by obtain ⟨p, hp, _⟩ := h; exact absurd hp List.not_mem_nil
  | p :: q :: L, y, h => by
    rw [List.dropLast_cons₂]
    by_cases hm : y ∈ p.1.set
    · obtain ⟨x, rfl⟩ := p.1.exists_idx_of_mem hm
      rw [show p.1.idx x = p.1.emb x from rfl, View.canon_cons_emb, View.canon_cons_emb]
    · rw [View.canon_cons_of_not_mem _ _ hm, View.canon_cons_of_not_mem _ _ hm]
      refine canon_dropLast (q :: L) y ?_
      obtain ⟨o, ho, hy⟩ := h
      rw [List.dropLast_cons₂] at ho
      rcases List.mem_cons.mp ho with rfl | ho
      · exact absurd hy hm
      · exact ⟨o, ho, hy⟩

theorem scl_A (c : Dev nD) (t : Fin cfg0.N) (g0 : t.val % 65 = 0) (g1 : ¬t.val % 2 = 1) (g2 : ¬(1 ≤ t.val % 65 ∧ t.val % 65 ≤ 63)) (g3 : ¬t.val % 65 = 64)
    (r : Fin 768) (l : Fin 128) :
    (outsAt0 m c t.val t.isLt).2.2.1 (ix2 r l)
      = (if l.val = (grid0.coords t 0).val then sOf (fun k => (iblk m c 0 t : Vec Ideal S1x768x1024 .f32) (ix3 0 r k)) else (1 : EReal) : EReal) := by
  rw [outsAt0_A m c t g0 g1 g2 g3]
  dsimp only
  frame_out
  clear g0 g1 g2 g3
  simp (disch := decide) only [↓ View.readCov_skip, ↓ View.readCov_cons_toLoadRect, ↓ View.readCov_fill]
  refine (canon_dropLast _ _ (by dsimp only [List.dropLast]; exact View.cover_of_tiled_head _ _ _ rfl _)).trans ?_
  dsimp only [List.dropLast]
  canon_tiles x h
  all_goals try replace h0 : (ix2 r l 0).val = 0 + (x 0).val := h0.trans (Nat.zero_add _).symm
  all_goals refine Eq.trans ?_ ((sclRows_at (iblk m c 0 t) (k0_pay5 (F := Ideal)) (grid0.coords t 0).val (grid0.coords t 0).isLt (ha := by decide) x r l h0 h1).trans (congrArg (fun o : EReal => if l.val = (grid0.coords t 0).val then sOf (fun k => (iblk m c 0 t : Vec Ideal S1x768x1024 .f32) (ix3 0 r k)) else o) (one_at _)))
  all_goals sl_kernel_rfl

theorem scl_B (c : Dev nD) (t : Fin cfg0.N) (g0 : ¬t.val % 65 = 0) (g1 : t.val % 2 = 1) (g2 : 1 ≤ t.val % 65 ∧ t.val % 65 ≤ 63) (g3 : ¬t.val % 65 = 64) (g4 : ¬t.val % 2 = 0)
    (r : Fin 768) (l : Fin 128) :
    (outsAt0 m c t.val t.isLt).2.2.1 (ix2 r l)
      = (if l.val = (grid0.coords t 0).val then sOf (fun k => (iblk m c 0 t : Vec Ideal S1x768x1024 .f32) (ix3 0 r k)) else (outsAt0 m c (t.val - 1) (Nat.lt_of_le_of_lt (Nat.sub_le _ _) t.isLt)).2.2.1 (ix2 r l) : EReal) := by
  rw [outsAt0_B m c t g0 g1 g2 g3 g4]
  dsimp only
  frame_out
  clear g0 g1 g2 g3 g4
  canon_tiles x h
  all_goals try replace h0 : (ix2 r l 0).val = 0 + (x 0).val := h0.trans (Nat.zero_add _).symm
  all_goals refine Eq.trans ?_ (sclRows_at (iblk m c 0 t) (outsAt0 m c (t.val - 1) (Nat.lt_of_le_of_lt (Nat.sub_le _ _) t.isLt)).2.2.1 (grid0.coords t 0).val (grid0.coords t 0).isLt (ha := by decide) x r l h0 h1)
  all_goals sl_kernel_rfl

theorem scl_C (c : Dev nD) (t : Fin cfg0.N) (g0 : ¬t.val % 65 = 0) (g1 : ¬t.val % 2 = 1) (g2 : 1 ≤ t.val % 65 ∧ t.val % 65 ≤ 63) (g3 : ¬t.val % 65 = 64) (g4 : t.val % 2 = 0)
    (r : Fin 768) (l : Fin 128) :
    (outsAt0 m c t.val t.isLt).2.2.1 (ix2 r l)
      = (if l.val = (grid0.coords t 0).val then sOf (fun k => (iblk m c 0 t : Vec Ideal S1x768x1024 .f32) (ix3 0 r k)) else (outsAt0 m c (t.val - 1) (Nat.lt_of_le_of_lt (Nat.sub_le _ _) t.isLt)).2.2.1 (ix2 r l) : EReal) := by
  rw [outsAt0_C m c t g0 g1 g2 g3 g4]
  dsimp only
  frame_out
  clear g0 g1 g2 g3 g4
  canon_tiles x h
  all_goals try replace h0 : (ix2 r l 0).val = 0 + (x 0).val := h0.trans (Nat.zero_add _).symm
  all_goals refine Eq.trans ?_ (sclRows_at (iblk m c 0 t) (outsAt0 m c (t.val - 1) (Nat.lt_of_le_of_lt (Nat.sub_le _ _) t.isLt)).2.2.1 (grid0.coords t 0).val (grid0.coords t 0).isLt (ha := by decide) x r l h0 h1)
  all_goals sl_kernel_rfl

theorem scl_D (c : Dev nD) (t : Fin cfg0.N) (g0 : ¬t.val % 65 = 0) (g1 : ¬t.val % 2 = 1) (g2 : ¬(1 ≤ t.val % 65 ∧ t.val % 65 ≤ 63)) (g3 : t.val % 65 = 64)
    (r : Fin 768) (l : Fin 128) : (outsAt0 m c t.val t.isLt).2.2.1 (ix2 r l) = (outsAt0 m c (t.val - 1) (Nat.lt_of_le_of_lt (Nat.sub_le _ _) t.isLt)).2.2.1 (ix2 r l) := by
  rw [outsAt0_D m c t g0 g1 g2 g3]
  dsimp only
  frame_out
  exact kept_at _ _

end Cert.KernelIdeal.Value

end
-- ==== Proof.KernelValue.lean ====
/- The kernel's three results, each one function of its arguments. -/
module

public import proofs.«01_k».proof.Proof.KernelScratch
public import proofs.«01_k».proof.Proof.KernelState

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Cert.Scale

variable (m : (ℓ : Loc nD τ sig) → Buf (Elt Ideal) ℓ)

/-- The logits' gradient, an argument. -/
abbrev Z (c : Dev nD) (a : Fin 64) (r : Fin 768) (k : Fin 1024) : EReal := (m ((c : Thread nD τ).loc main_arg0) : FVec Ideal S64x768x1024 .f32) (ix3 a r k)

/-- The head's rows. -/
abbrev W (c : Dev nD) (v : Fin 65536) (d : Fin 1536) : EReal := (m ((c : Thread nD τ).loc main_arg1) : FVec Ideal S65536x1536 .fp8e4m3) (ix2 v d)

/-- The head's scales. -/
abbrev U (c : Dev nD) (a : Fin 64) (k : Fin 1024) : EReal := (m ((c : Thread nD τ).loc main_arg2) : FVec Ideal S64x1x1024 .f32) (ix3 a 0 k)

/-- The hidden rows. -/
abbrev H (c : Dev nD) (r : Fin 768) (d : Fin 1536) : EReal := (m ((c : Thread nD τ).loc main_arg3) : FVec Ideal S768x1536 .bf16) (ix2 r d)

theorem idx : ∀ t : Fin cfg0.N, win0_0.index t = ![min t.val 63, 0, 0] ∧ win0_1.index t = ![t.val - 1, 0] ∧ win0_2.index t = ![min t.val 63, 0, 0]
    ∧ win0_3.index t = ![0, 0] ∧ win0_4.index t = ![t.val - 1, 0] ∧ win0_5.index t = ![0, 0] ∧ win0_6.index t = ![0, 0] :=
  (by decide +kernel : ∀ t : Fin grid0.N, _)

theorem coord : ∀ t : Fin cfg0.N, (grid0.coords t 0).val = t.val := (by decide +kernel : ∀ t : Fin grid0.N, _)

theorem flush4 : ∀ t : Fin cfg0.N, (cfg0.win 4).flush t = true → 1 ≤ t.val := (by decide +kernel : ∀ t : Fin grid0.N, _)

theorem flush5 : ∀ t : Fin cfg0.N, (cfg0.win 5).flush t = true → t.val = 64 := (by decide +kernel : ∀ t : Fin grid0.N, _)

theorem flush6 : ∀ t : Fin cfg0.N, (cfg0.win 6).flush t = true → t.val = 64 := (by decide +kernel : ∀ t : Fin grid0.N, _)

theorem lt65 (t : Fin cfg0.N) : t.val < 65 := lt_of_lt_of_eq t.isLt N_0

theorem blk0 (c : Dev nD) (t : Fin cfg0.N) (r : Fin 768) (k : Fin 1024) :
    (iblk m c 0 t : Vec Ideal S1x768x1024 .f32) (ix3 0 r k) = Z m c ⟨min t.val 63, by omega⟩ r k := by
  blk_point [iblk, V, idx t]

theorem blk1 (c : Dev nD) (t : Fin cfg0.N) (k : Fin 1024) (d : Fin 1536) :
    (iblk m c 1 t : Vec Ideal S1024x1536 .fp8e4m3) (ix2 k d) = W m c ⟨(t.val - 1) * 1024 + k.val, by have := lt65 t; omega⟩ d := by
  blk_point [iblk, V, idx t]

theorem blk2 (c : Dev nD) (t : Fin cfg0.N) (k : Fin 1024) :
    (iblk m c 2 t : Vec Ideal S1x1x1024 .f32) (ix3 0 0 k) = U m c ⟨min t.val 63, by omega⟩ k := by
  blk_point [iblk, V, idx t]

theorem blk3 (c : Dev nD) (t : Fin cfg0.N) (r : Fin 768) (d : Fin 1536) :
    (iblk m c 3 t : Vec Ideal S768x1536 .bf16) (ix2 r d) = H m c r d := by
  blk_point [iblk, V, idx t]

theorem G_eq (c : Dev nD) (t : Fin cfg0.N) (r : Fin 768) (k : Fin 1024) : G m c t r k = gOf (Z m c ⟨min t.val 63, by omega⟩ r) k := by
  unfold G
  exact congrArg (gOf · k) (funext fun k => blk0 m c t r k)

theorem GW_eq (c : Dev nD) (t : Fin cfg0.N) (r : Fin 768) (k : Fin 1024) :
    GW m c t r k = gOf (Z m c ⟨min t.val 63, by omega⟩ r) k * U m c ⟨min t.val 63, by omega⟩ k := by
  unfold GW
  rw [G_eq, blk2]

theorem gt_even (c : Dev nD) (s : Fin cfg0.N) (h : s.val % 2 = 0) (h' : s.val ≤ 63) (k : Fin 1024) (r : Fin 768) :
    (outsAt0 m c s.val s.isLt).2.2.2.2.2.1 (ix2 k r) = G m c s r k := by
  by_cases z : s.val = 0
  · exact gt0_A m c s (by omega) (by omega) (by omega) (by omega) k r
  · exact gt0_C m c s (by omega) (by omega) (by omega) (by omega) (by omega) k r

theorem gt_odd (c : Dev nD) (s : Fin cfg0.N) (h : s.val % 2 = 1) (h' : s.val ≤ 63) (k : Fin 1024) (r : Fin 768) :
    (outsAt0 m c s.val s.isLt).2.2.2.2.2.2 (ix2 k r) = G m c s r k :=
  gt1_B m c s (by omega) (by omega) (by omega) (by omega) (by omega) k r

theorem gp_even (c : Dev nD) (s : Fin cfg0.N) (h : s.val % 2 = 0) (h' : s.val ≤ 63) (r : Fin 768) (k : Fin 1024) :
    (outsAt0 m c s.val s.isLt).2.2.2.1 (ix2 r k) = GW m c s r k := by
  by_cases z : s.val = 0
  · exact gp0_A m c s (by omega) (by omega) (by omega) (by omega) r k
  · exact gp0_C m c s (by omega) (by omega) (by omega) (by omega) (by omega) r k

theorem gp_odd (c : Dev nD) (s : Fin cfg0.N) (h : s.val % 2 = 1) (h' : s.val ≤ 63) (r : Fin 768) (k : Fin 1024) :
    (outsAt0 m c s.val s.isLt).2.2.2.2.1 (ix2 r k) = GW m c s r k :=
  gp1_B m c s (by omega) (by omega) (by omega) (by omega) (by omega) r k

/-- The point before `t`. -/
abbrev before (t : Fin cfg0.N) : Fin cfg0.N := ⟨t.val - 1, Nat.lt_of_le_of_lt (Nat.sub_le _ _) t.isLt⟩

theorem head_out (c : Dev nD) (t : Fin cfg0.N) (h : 1 ≤ t.val) (k : Fin 1024) (d : Fin 1536) :
    (outsAt0 m c t.val t.isLt).1 (ix2 k d) = ∑ r : Fin 768, (G m c (before t) r k * (iblk m c 3 t : Vec Ideal S768x1536 .bf16) (ix2 r d) : EReal) := by
  have hN := lt65 t
  by_cases z : t.val = 64
  · refine (head_D m c t (by omega) (by omega) (by omega) (by omega) k d).trans (Fin.sum_fin_congr fun r => ?_)
    rw [gt_odd m c (before t) (show (t.val - 1) % 2 = 1 by omega) (show t.val - 1 ≤ 63 by omega)]
  by_cases o : t.val % 2 = 1
  · refine (head_B m c t (by omega) (by omega) (by omega) (by omega) (by omega) k d).trans (Fin.sum_fin_congr fun r => ?_)
    rw [gt_even m c (before t) (show (t.val - 1) % 2 = 0 by omega) (show t.val - 1 ≤ 63 by omega)]
  · refine (head_C m c t (by omega) (by omega) (by omega) (by omega) (by omega) k d).trans (Fin.sum_fin_congr fun r => ?_)
    rw [gt_odd m c (before t) (show (t.val - 1) % 2 = 1 by omega) (show t.val - 1 ≤ 63 by omega)]

theorem hid_out (c : Dev nD) (t : Fin cfg0.N) (h : 1 ≤ t.val) (r : Fin 768) (d : Fin 1536) :
    (outsAt0 m c t.val t.isLt).2.1 (ix2 r d) = ((outsAt0 m c (before t).val (before t).isLt).2.1 (ix2 r d)
      + ∑ k : Fin 1024, GW m c (before t) r k * (iblk m c 1 t : Vec Ideal S1024x1536 .fp8e4m3) (ix2 k d) : EReal) := by
  have hN := lt65 t
  by_cases z : t.val = 64
  · refine (hid_D m c t (by omega) (by omega) (by omega) (by omega) r d).trans (congrArg (_ + ·) (Fin.sum_fin_congr fun k => ?_))
    rw [gp_odd m c (before t) (show (t.val - 1) % 2 = 1 by omega) (show t.val - 1 ≤ 63 by omega)]
  by_cases o : t.val % 2 = 1
  · refine (hid_B m c t (by omega) (by omega) (by omega) (by omega) (by omega) r d).trans (congrArg (_ + ·) (Fin.sum_fin_congr fun k => ?_))
    rw [gp_even m c (before t) (show (t.val - 1) % 2 = 0 by omega) (show t.val - 1 ≤ 63 by omega)]
  · refine (hid_C m c t (by omega) (by omega) (by omega) (by omega) (by omega) r d).trans (congrArg (_ + ·) (Fin.sum_fin_congr fun k => ?_))
    rw [gp_odd m c (before t) (show (t.val - 1) % 2 = 1 by omega) (show t.val - 1 ≤ 63 by omega)]

/-- Chunk `a`'s part of the hidden product. -/
def part (c : Dev nD) (r : Fin 768) (d : Fin 1536) (a : ℕ) : EReal :=
  if h : a < 64 then ∑ k : Fin 1024, gOf (Z m c ⟨a, h⟩ r) k * U m c ⟨a, h⟩ k * W m c ⟨a * 1024 + k.val, by omega⟩ d else 0

theorem hid_sum (c : Dev nD) (r : Fin 768) (d : Fin 1536) : ∀ (n : ℕ) (hn : n < cfg0.N),
    (outsAt0 m c n hn).2.1 (ix2 r d) = ∑ a ∈ Finset.range n, part m c r d a
  | 0, hn => hid_A m c ⟨0, hn⟩ rfl (show ¬0 % 2 = 1 by decide) (show ¬(1 ≤ 0 % 65 ∧ 0 % 65 ≤ 63) by decide) (show ¬0 % 65 = 64 by decide) r d
  | n + 1, hn => by
    have hN : n + 1 < 65 := lt65 ⟨n + 1, hn⟩
    refine (hid_out m c ⟨n + 1, hn⟩ (Nat.succ_pos n) r d).trans ?_
    rw [Finset.sum_range_succ]
    refine congrArg₂ (fun a b : EReal => a + b) (hid_sum c r d n _) ?_
    unfold part
    rw [dif_pos (show n < 64 by omega)]
    refine Fin.sum_fin_congr fun k => ?_
    rw [GW_eq, blk1]
    have e : (⟨min n 63, by omega⟩ : Fin 64) = ⟨n, by omega⟩ := Fin.ext (show min n 63 = n by omega)
    exact congrArg (fun a : Fin 64 => gOf (Z m c a r) k * U m c a k * W m c ⟨n * 1024 + k.val, by omega⟩ d) e

theorem scl_out (c : Dev nD) (r : Fin 768) (l : Fin 128) : ∀ (n : ℕ) (hn : n < cfg0.N),
    (outsAt0 m c n hn).2.2.1 (ix2 r l) = (if h : l.val < 64 ∧ l.val ≤ n then sOf (Z m c ⟨l.val, h.1⟩ r) else 1 : EReal)
  | 0, hn => by
    refine (scl_A m c ⟨0, hn⟩ rfl (show ¬0 % 2 = 1 by decide) (show ¬(1 ≤ 0 % 65 ∧ 0 % 65 ≤ 63) by decide) (show ¬0 % 65 = 64 by decide) r l).trans ?_
    rw [coord]
    by_cases h : l.val = 0
    · rw [if_pos h, dif_pos (by omega)]
      refine congrArg sOf (funext fun k => (blk0 m c ⟨0, hn⟩ r k).trans ?_)
      exact congrArg (fun a : Fin 64 => Z m c a r k) (Fin.ext h.symm)
    · rw [if_neg h, dif_neg (by omega)]
  | n + 1, hn => by
    have hN : n + 1 < 65 := lt65 ⟨n + 1, hn⟩
    have ih := scl_out c r l n (by omega)
    by_cases z : n = 63
    · refine (scl_D m c ⟨n + 1, hn⟩ (show ¬(n + 1) % 65 = 0 by omega) (show ¬(n + 1) % 2 = 1 by omega)
        (show ¬(1 ≤ (n + 1) % 65 ∧ (n + 1) % 65 ≤ 63) by omega) (show (n + 1) % 65 = 64 by omega) r l).trans (ih.trans ?_)
      by_cases h : l.val < 64
      · rw [dif_pos (by omega), dif_pos (by omega)]
      · rw [dif_neg (by omega), dif_neg (by omega)]
    · have s : (outsAt0 m c (n + 1) hn).2.2.1 (ix2 r l) = (if l.val = (grid0.coords ⟨n + 1, hn⟩ 0).val
          then sOf (fun k => (iblk m c 0 ⟨n + 1, hn⟩ : Vec Ideal S1x768x1024 .f32) (ix3 0 r k)) else (outsAt0 m c n (by omega)).2.2.1 (ix2 r l) : EReal) := by
        by_cases o : (n + 1) % 2 = 1
        · exact scl_B m c ⟨n + 1, hn⟩ (show ¬(n + 1) % 65 = 0 by omega) o (show 1 ≤ (n + 1) % 65 ∧ (n + 1) % 65 ≤ 63 by omega)
            (show ¬(n + 1) % 65 = 64 by omega) (show ¬(n + 1) % 2 = 0 by omega) r l
        · exact scl_C m c ⟨n + 1, hn⟩ (show ¬(n + 1) % 65 = 0 by omega) o (show 1 ≤ (n + 1) % 65 ∧ (n + 1) % 65 ≤ 63 by omega)
            (show ¬(n + 1) % 65 = 64 by omega) (show (n + 1) % 2 = 0 by omega) r l
      refine s.trans ?_
      rw [coord, ih]
      by_cases h : l.val = n + 1
      · rw [if_pos h, dif_pos (by omega)]
        refine congrArg sOf (funext fun k => (blk0 m c ⟨n + 1, hn⟩ r k).trans ?_)
        exact congrArg (fun a : Fin 64 => Z m c a r k) (Fin.ext (show min (n + 1) 63 = l.val by omega))
      · rw [if_neg h]
        by_cases h' : l.val < 64 ∧ l.val ≤ n
        · rw [dif_pos h', dif_pos (by omega)]
        · rw [dif_neg h', dif_neg (by omega)]

theorem hid_whole (c : Dev nD) (r : Fin 768) (d : Fin 1536) : ∑ a ∈ Finset.range 64, part m c r d a = hidOf (Z m c) (W m c) (U m c) r d := by
  rw [Finset.sum_range]
  unfold hidOf
  have e : ∀ a : Fin 64, part m c r d a.val
      = ∑ k : Fin 1024, gOf (Z m c a r) k * U m c a k * W m c ⟨a.val * 1024 + k.val, by omega⟩ d := fun a => dif_pos a.isLt
  simp only [e]
  refine Fin.sum_mul_add_congr fun a k hl => ?_
  have e0 : (⟨(a.val * 1024 + k.val) / 1024, by omega⟩ : Fin 64) = a := Fin.ext (show (a.val * 1024 + k.val) / 1024 = a.val by omega)
  have e1 : (⟨(a.val * 1024 + k.val) % 1024, by omega⟩ : Fin 1024) = k := Fin.ext (show (a.val * 1024 + k.val) % 1024 = k.val by omega)
  rw [e0, e1, mul_assoc, mul_comm (U m c a k)]

theorem final4 (c : Dev nD) : (dats m 0 c).arrAt 4 (cfgs 0).N = fun j : S65536x1536.Idx => headOf (Z m c) (H m c) (j 0) (j 1) := by
  refine (dats m 0 c).arrAt_eq_of_covers 4 _ (by decide +kernel) fun t hf y => ?_
  have h1 := flush4 t hf
  have hN := lt65 t
  blk_simp
  rw [after0_4]
  idx_vars y
  refine (head_out m c t h1 y0 y1).trans ?_
  refine Eq.trans (b := headOf (Z m c) (H m c) ⟨(t.val - 1) * 1024 + y0.val, by omega⟩ y1) ?_ (congrArg₂ (headOf (Z m c) (H m c)) (Fin.ext ?_) (Fin.ext ?_))
  · unfold headOf
    refine Fin.sum_fin_congr fun r => ?_
    rw [G_eq, blk3]
    have e0 : (⟨((t.val - 1) * 1024 + y0.val) / 1024, by omega⟩ : Fin 64) = ⟨min (t.val - 1) 63, by omega⟩ :=
      Fin.ext (show ((t.val - 1) * 1024 + y0.val) / 1024 = min (t.val - 1) 63 by omega)
    have e1 : (⟨((t.val - 1) * 1024 + y0.val) % 1024, by omega⟩ : Fin 1024) = y0 :=
      Fin.ext (show ((t.val - 1) * 1024 + y0.val) % 1024 = y0.val by omega)
    rw [e0, e1]
  · blk_simp [idx t]
  · blk_simp [idx t]

theorem final5 (c : Dev nD) : (dats m 0 c).arrAt 5 (cfgs 0).N = fun j : S768x1536.Idx => hidOf (Z m c) (W m c) (U m c) (j 0) (j 1) := by
  refine (dats m 0 c).arrAt_eq_of_covers 5 _ (by decide +kernel) fun t hf y => ?_
  have h1 := flush5 t hf
  blk_simp
  rw [after0_5]
  idx_vars y
  refine (hid_sum m c y0 y1 t.val t.isLt).trans ?_
  rw [h1]
  refine (hid_whole m c y0 y1).trans (congrArg₂ (hidOf (Z m c) (W m c) (U m c)) (Fin.ext ?_) (Fin.ext ?_))
  · blk_simp [idx t]
  · blk_simp [idx t]

theorem final6 (c : Dev nD) : (dats m 0 c).arrAt 6 (cfgs 0).N = fun j : S768x128.Idx => sclOf (Z m c) (j 0) (j 1) := by
  refine (dats m 0 c).arrAt_eq_of_covers 6 _ (by decide +kernel) fun t hf y => ?_
  have h1 := flush6 t hf
  blk_simp
  rw [after0_6]
  idx_vars y
  refine (scl_out m c y0 y1 t.val t.isLt).trans ?_
  refine Eq.trans (b := sclOf (Z m c) y0 y1) ?_ (congrArg₂ (sclOf (Z m c)) (Fin.ext ?_) (Fin.ext ?_))
  · unfold sclOf
    by_cases h : y1.val < 64
    · rw [dif_pos h, dif_pos (by omega)]
    · rw [dif_neg h, dif_neg (by omega)]
  · blk_simp [idx t]
  · blk_simp [idx t]

end Cert.KernelIdeal.Value

end
-- ==== Proof.RefEntry.lean ====
/- What the reference's host line computes before its one call: the scales, the codes and the weights' scales, each as a
   composed term of the arguments. -/
module

public import proofs.«01_k».proof.Proof.Gen.ReferenceIdeal.Value
public import Idealize.ShloMosaic.Lib.Pipeline.ValueKit

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable (m : (ℓ : Loc nD τ sig) → Buf (Elt Ideal) ℓ)

/-- A row's largest magnitude in a chunk, over the format's largest value. -/
def refX (X : FVec Ideal S64x768x1024 .f32) : FVec Ideal S64x768 .f32 :=
  mulf (Host.reduce FloatOps.maximumf (Host.absf X) (constant S_ .f32 0xFF800000#32) reducesTo_S64x768x1024_S64x768_d2 h_S_)
    (broadcastInDim S64x768 ![] bcast_S_S64x768 (constant S_ .f32 0x37924925#32))

/-- The table of the powers of two. -/
def refTable : FVec Ideal S254 .f32 :=
  bitcastToFloat .f32 (Host.shli (addi (broadcastInDim S254 ![] bcast_S_S254 (constantI S_ 32 1#32)) (iotaInDim S254 32 0))
    (broadcastInDim S254 ![] bcast_S_S254 (constantI S_ 32 23#32)))

/-- The largest power of two at most `Y`, or zero. -/
def refPower (Y : FVec Ideal S64x768 .f32) : FVec Ideal S64x768 .f32 :=
  Host.reduce FloatOps.maximumf
    (select (cmpf .ole
        (broadcastInDim S64x768x254 ![0, 1, 2] bcast_S1x1x254_S64x768x254_0_1_2 (broadcastInDim S1x1x254 ![2] bcast_S254_S1x1x254_2 refTable))
        (broadcastInDim S64x768x254 ![0, 1, 2] bcast_S64x768x1_S64x768x254_0_1_2 (broadcastInDim S64x768x1 ![0, 1] bcast_S64x768_S64x768x1_0_1 Y)))
      (broadcastInDim S64x768x254 ![2] bcast_S254_S64x768x254_2 refTable)
      (broadcastInDim S64x768x254 ![] bcast_S_S64x768x254 (constant S_ .f32 0x00000000#32)))
    (constant S_ .f32 0xFF800000#32) reducesTo_S64x768x254_S64x768_d2 h_S_

/-- The scale of each row and chunk. -/
def refScale (X : FVec Ideal S64x768x1024 .f32) : FVec Ideal S64x768 .f32 :=
  select (cmpf .oeq (refPower (refX X)) (broadcastInDim S64x768 ![] bcast_S_S64x768 (constant S_ .f32 0x00000000#32)))
    (broadcastInDim S64x768 ![] bcast_S_S64x768 (constant S_ .f32 0x3F800000#32))
    (mulf (broadcastInDim S64x768 ![] bcast_S_S64x768 (constant S_ .f32 0x40000000#32)) (refPower (refX X)))

/-- The scaled and clipped values. -/
def refCodes (X : FVec Ideal S64x768x1024 .f32) : FVec Ideal S64x768x1024 .f32 :=
  minimumf (maximumf
      (mulf X (broadcastInDim S64x768x1024 ![0, 1, 2] bcast_S64x768x1_S64x768x1024_0_1_2
        (broadcastInDim S64x768x1 ![0, 1] bcast_S64x768_S64x768x1_0_1
          (Host.divf (broadcastInDim S64x768 ![] bcast_S_S64x768 (constant S_ .f32 0x3F800000#32)) (refScale X)))))
      (broadcastInDim S64x768x1024 ![] bcast_S_S64x768x1024 (constant S_ .f32 0xC7600000#32)))
    (broadcastInDim S64x768x1024 ![] bcast_S_S64x768x1024 (constant S_ .f32 0x47600000#32))

theorem v35 (c : Dev nD) : V m c main_v35
    = shapeCast S768x65536 (transpose S768x64x1024 [1, 0, 2] (refCodes (m ((c : Thread nD τ).loc main_arg0))) transposes_S64x768x1024_S768x64x1024_1_0_2)
        shapeCasts_S768x64x1024_S768x65536 := by
  entry_read
  rfl

theorem v40 (c : Dev nD) : V m c main_v40
    = shapeCast S768x65536 (transpose S768x64x1024 [1, 0, 2] (broadcastInDim S64x768x1024 ![0, 1, 2] bcast_S64x768x1_S64x768x1024_0_1_2
        (broadcastInDim S64x768x1 ![0, 1] bcast_S64x768_S64x768x1_0_1 (truncf .bf16 (refScale (m ((c : Thread nD τ).loc main_arg0))) bitsLt_bf16_f32)))
          transposes_S64x768x1024_S768x64x1024_1_0_2) shapeCasts_S768x64x1024_S768x65536 := by
  entry_read
  rfl

theorem v42 (c : Dev nD) : V m c main_v42
    = (truncf .bf16 (shapeCast S65536x1 (m ((c : Thread nD τ).loc main_arg2) : FVec Ideal S64x1x1024 .f32) shapeCasts_S64x1x1024_S65536x1)
        bitsLt_bf16_f32 : FVec Ideal S65536x1 .bf16) := by
  entry_read
  rfl

theorem v43 (c : Dev nD) : V m c main_v43
    = transpose S768x64 [1, 0] (refScale (m ((c : Thread nD τ).loc main_arg0))) transposes_S64x768_S768x64_1_0 := by
  entry_read
  rfl

end Cert.ReferenceIdeal.Value

end
-- ==== Proof.RefPure.lean ====
/- The reference's host line at an index: a row's scale and its codes, as `Spec` states them. -/
module

public import proofs.«01_k».proof.Proof.RefEntry
public import proofs.«01_k».proof.Proof.Spec

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.Scale

theorem top_at (X : FVec Ideal S64x768x1024 .f32) (c : Fin 64) (r : Fin 768) :
    Host.reduce FloatOps.maximumf (Host.absf X) (constant S_ .f32 0xFF800000#32) reducesTo_S64x768x1024_S64x768_d2 h_S_ (ix2 c r)
      = Finset.univ.fold max (Ideal.ofBits .f32 0xFF800000#32) (fun k : Fin 1024 => FloatOps.absf (F := Ideal) (φ := .f32) (X (ix3 c r k))) := by
  pointwise

theorem mul_const_at (Y : FVec Ideal S64x768 .f32) (b : BitVec 32) (c : Fin 64) (r : Fin 768) :
    mulf Y (broadcastInDim S64x768 ![] bcast_S_S64x768 (constant S_ .f32 b)) (ix2 c r) = Y (ix2 c r) * Ideal.ofBits .f32 b := by
  pointwise

theorem const_mul_at (Y : FVec Ideal S64x768 .f32) (b : BitVec 32) (c : Fin 64) (r : Fin 768) :
    mulf (broadcastInDim S64x768 ![] bcast_S_S64x768 (constant S_ .f32 b)) Y (ix2 c r) = Ideal.ofBits .f32 b * Y (ix2 c r) := by
  pointwise

theorem refX_at (X : FVec Ideal S64x768x1024 .f32) (c : Fin 64) (r : Fin 768) : refX X (ix2 c r) = xOf fun k => X (ix3 c r k) := by
  unfold refX xOf
  rw [mul_const_at, top_at]

theorem refTable_at (i : Fin 254) : refTable (ix1 i) = pw (i - 126) := by
  have h : refTable (ix1 i) = Ideal.ofBits .f32 (IntOp.shli ArithUnit.host (IntOp.addi (1#32) (BitVec.ofNat 32 i)) 23#32) := by
    pointwise [refTable]
  rw [h, ofBits_pw (1 + i) (by omega) (by omega) _ ?_]
  · congr 1
    omega
  · clear h
    revert i
    decide +kernel

theorem refPower_at (Y : FVec Ideal S64x768 .f32) (c : Fin 64) (r : Fin 768) : refPower Y (ix2 c r) = table (Y (ix2 c r)) := by
  have h : refPower Y (ix2 c r) = Finset.univ.fold max (Ideal.ofBits .f32 0xFF800000#32)
      (fun i : Fin 254 => (if refTable (ix1 i) ≤ Y (ix2 c r) then refTable (ix1 i) else 0 : EReal)) := by
    pointwise [refPower]
  rw [h, ofBits_bot]
  simp only [refTable_at]
  rfl

theorem choose_at (P Q : FVec Ideal S64x768 .f32) (c : Fin 64) (r : Fin 768) :
    select (cmpf .oeq P (broadcastInDim S64x768 ![] bcast_S_S64x768 (constant S_ .f32 0x00000000#32)))
      (broadcastInDim S64x768 ![] bcast_S_S64x768 (constant S_ .f32 0x3F800000#32)) Q (ix2 c r)
      = (if P (ix2 c r) = 0 then 1 else Q (ix2 c r) : EReal) := by
  pointwise

theorem refScale_at (X : FVec Ideal S64x768x1024 .f32) (c : Fin 64) (r : Fin 768) : refScale X (ix2 c r) = sOf fun k => X (ix3 c r k) := by
  refine (choose_at _ _ c r).trans ?_
  rw [const_mul_at, refPower_at, refX_at, ofBits_two]
  unfold sOf scaleTable
  rfl

theorem clip_at (V : FVec Ideal S64x768x1024 .f32) (a b : BitVec 32) (c : Fin 64) (r : Fin 768) (k : Fin 1024) :
    minimumf (maximumf V (broadcastInDim S64x768x1024 ![] bcast_S_S64x768x1024 (constant S_ .f32 a)))
      (broadcastInDim S64x768x1024 ![] bcast_S_S64x768x1024 (constant S_ .f32 b)) (ix3 c r k)
      = min (max (V (ix3 c r k)) (Ideal.ofBits .f32 a)) (Ideal.ofBits .f32 b) := by
  pointwise

theorem scaled_at (X : FVec Ideal S64x768x1024 .f32) (Y : FVec Ideal S64x768 .f32) (c : Fin 64) (r : Fin 768) (k : Fin 1024) :
    mulf X (broadcastInDim S64x768x1024 ![0, 1, 2] bcast_S64x768x1_S64x768x1024_0_1_2
        (broadcastInDim S64x768x1 ![0, 1] bcast_S64x768_S64x768x1_0_1
          (Host.divf (broadcastInDim S64x768 ![] bcast_S_S64x768 (constant S_ .f32 0x3F800000#32)) Y))) (ix3 c r k)
      = X (ix3 c r k) * Ideal.div 1 (Y (ix2 c r)) := by
  pointwise

theorem refCodes_at (X : FVec Ideal S64x768x1024 .f32) (c : Fin 64) (r : Fin 768) (k : Fin 1024) : refCodes X (ix3 c r k)
    = min (max (X (ix3 c r k) * Ideal.div 1 (sOf fun k => X (ix3 c r k))) (Ideal.ofBits .f32 0xC7600000#32)) (Ideal.ofBits .f32 0x47600000#32) := by
  refine (clip_at _ _ _ c r k).trans ?_
  rw [scaled_at, refScale_at]

end Cert.ReferenceIdeal.Value

end
-- ==== Proof.RefValue.lean ====
/- The reference's three results at an index. -/
module

public import proofs.«01_k».proof.Proof.RefPure

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)
open Cert.Scale

variable (m : (ℓ : Loc nD τ sig) → Buf (Elt Ideal) ℓ)

theorem head_at (A : Vec Ideal S768x65536 .f32) (S : Vec Ideal S768x65536 .bf16) (H : Vec Ideal S768x1536 .bf16) (v : Fin 65536) (d : Fin 1536) :
    k0_pay3 A S H (ix2 v d) = ∑ r : Fin 768, (A (ix2 r v) * S (ix2 r v) * H (ix2 r d) : EReal) := by
  pointwise [k0_pay3, k0_pay1]

theorem hid_at (A : Vec Ideal S768x65536 .f32) (S : Vec Ideal S768x65536 .bf16) (W : Vec Ideal S65536x1536 .fp8e4m3) (U : Vec Ideal S65536x1 .bf16)
    (r : Fin 768) (d : Fin 1536) :
    k0_pay2 A S W U (ix2 r d) = ∑ v : Fin 65536, (A (ix2 r v) * S (ix2 r v) * (W (ix2 v d) * U (ix2 v 0)) : EReal) := by
  pointwise [k0_pay2, k0_pay1]

theorem codes_at (X : FVec Ideal S64x768x1024 .f32) (r : Fin 768) (v : Fin 65536) :
    shapeCast S768x65536 (transpose S768x64x1024 [1, 0, 2] X transposes_S64x768x1024_S768x64x1024_1_0_2) shapeCasts_S768x64x1024_S768x65536 (ix2 r v)
      = X (ix3 ⟨v.val / 1024, by omega⟩ r ⟨v.val % 1024, by omega⟩) := by
  pointwise
  try blk_ext

theorem expanded_at (Y : FVec Ideal S64x768 .f32) (r : Fin 768) (v : Fin 65536) :
    shapeCast S768x65536 (transpose S768x64x1024 [1, 0, 2] (broadcastInDim S64x768x1024 ![0, 1, 2] bcast_S64x768x1_S64x768x1024_0_1_2
        (broadcastInDim S64x768x1 ![0, 1] bcast_S64x768_S64x768x1_0_1 (truncf .bf16 Y bitsLt_bf16_f32)))
          transposes_S64x768x1024_S768x64x1024_1_0_2) shapeCasts_S768x64x1024_S768x65536 (ix2 r v) = Y (ix2 ⟨v.val / 1024, by omega⟩ r) := by
  pointwise
  try blk_ext

theorem weights_at (U : FVec Ideal S64x1x1024 .f32) (v : Fin 65536) :
    (truncf .bf16 (shapeCast S65536x1 U shapeCasts_S64x1x1024_S65536x1) bitsLt_bf16_f32 : FVec Ideal S65536x1 .bf16) (ix2 v 0)
      = U (ix3 ⟨v.val / 1024, by omega⟩ 0 ⟨v.val % 1024, by omega⟩) := by
  pointwise
  try blk_ext

theorem rows_at (Y : FVec Ideal S64x768 .f32) (r : Fin 768) (l : Fin 64) :
    transpose S768x64 [1, 0] Y transposes_S64x768_S768x64_1_0 (ix2 r l) = Y (ix2 l r) := by
  pointwise

/-- The logits' gradient, an argument. -/
abbrev Z (c : Dev nD) (a : Fin 64) (r : Fin 768) (k : Fin 1024) : EReal := (m ((c : Thread nD τ).loc main_arg0) : FVec Ideal S64x768x1024 .f32) (ix3 a r k)

/-- The head's rows. -/
abbrev W (c : Dev nD) (v : Fin 65536) (d : Fin 1536) : EReal := (m ((c : Thread nD τ).loc main_arg1) : FVec Ideal S65536x1536 .fp8e4m3) (ix2 v d)

/-- The head's scales. -/
abbrev U (c : Dev nD) (a : Fin 64) (k : Fin 1024) : EReal := (m ((c : Thread nD τ).loc main_arg2) : FVec Ideal S64x1x1024 .f32) (ix3 a 0 k)

/-- The hidden rows. -/
abbrev H (c : Dev nD) (r : Fin 768) (d : Fin 1536) : EReal := (m ((c : Thread nD τ).loc main_arg3) : FVec Ideal S768x1536 .bf16) (ix2 r d)

theorem read0 (c : Dev nD) (A : (b : Ref sig .tc) → Buf (Elt Ideal) ((c : Thread nD τ).loc b)) (r : Fin 768) (v : Fin 65536) :
    (((cfg0.win 0).blk t0_0).view.read (Elt Ideal) (A (Pipeline.arrRef spec0 0)) : FVec Ideal S768x65536 .f32) (ix2 r v)
      = (A main_v35 : FVec Ideal S768x65536 .f32) (ix2 r v) := by
  blk_ext
  all_goals rw [show win0_0.index t0_0 _ = 0 from rfl]
  all_goals omega

theorem read1 (c : Dev nD) (A : (b : Ref sig .tc) → Buf (Elt Ideal) ((c : Thread nD τ).loc b)) (r : Fin 768) (v : Fin 65536) :
    (((cfg0.win 1).blk t0_0).view.read (Elt Ideal) (A (Pipeline.arrRef spec0 1)) : FVec Ideal S768x65536 .bf16) (ix2 r v)
      = (A main_v40 : FVec Ideal S768x65536 .bf16) (ix2 r v) := by
  blk_ext
  all_goals rw [show win0_1.index t0_0 _ = 0 from rfl]
  all_goals omega

theorem read2 (c : Dev nD) (A : (b : Ref sig .tc) → Buf (Elt Ideal) ((c : Thread nD τ).loc b)) (r : Fin 768) (l : Fin 64) :
    (((cfg0.win 2).blk t0_0).view.read (Elt Ideal) (A (Pipeline.arrRef spec0 2)) : FVec Ideal S768x64 .f32) (ix2 r l)
      = (A main_v43 : FVec Ideal S768x64 .f32) (ix2 r l) := by
  blk_ext
  all_goals rw [show win0_2.index t0_0 _ = 0 from rfl]
  all_goals omega

theorem read3 (c : Dev nD) (A : (b : Ref sig .tc) → Buf (Elt Ideal) ((c : Thread nD τ).loc b)) (v : Fin 65536) (d : Fin 1536) :
    (((cfg0.win 3).blk t0_0).view.read (Elt Ideal) (A (Pipeline.arrRef spec0 3)) : FVec Ideal S65536x1536 .fp8e4m3) (ix2 v d)
      = (A main_arg1 : FVec Ideal S65536x1536 .fp8e4m3) (ix2 v d) := by
  blk_ext
  all_goals rw [show win0_3.index t0_0 _ = 0 from rfl]
  all_goals omega

theorem read4 (c : Dev nD) (A : (b : Ref sig .tc) → Buf (Elt Ideal) ((c : Thread nD τ).loc b)) (v : Fin 65536) :
    (((cfg0.win 4).blk t0_0).view.read (Elt Ideal) (A (Pipeline.arrRef spec0 4)) : FVec Ideal S65536x1 .bf16) (ix2 v 0)
      = (A main_v42 : FVec Ideal S65536x1 .bf16) (ix2 v 0) := by
  blk_ext
  all_goals rw [show win0_4.index t0_0 _ = 0 from rfl]
  all_goals omega

theorem read5 (c : Dev nD) (A : (b : Ref sig .tc) → Buf (Elt Ideal) ((c : Thread nD τ).loc b)) (r : Fin 768) (d : Fin 1536) :
    (((cfg0.win 5).blk t0_0).view.read (Elt Ideal) (A (Pipeline.arrRef spec0 5)) : FVec Ideal S768x1536 .bf16) (ix2 r d)
      = (A main_arg3 : FVec Ideal S768x1536 .bf16) (ix2 r d) := by
  blk_ext
  all_goals rw [show win0_5.index t0_0 _ = 0 from rfl]
  all_goals omega

theorem blk0 (c : Dev nD) (r : Fin 768) (v : Fin 65536) :
    (iblk m c 0 t0_0 : FVec Ideal S768x65536 .f32) (ix2 r v) = refCodes (m ((c : Thread nD τ).loc main_arg0)) (ix3 ⟨v.val / 1024, by omega⟩ r ⟨v.val % 1024, by omega⟩) :=
  (read0 c (V m c) r v).trans ((congrFun (v35 m c) (ix2 r v)).trans (codes_at _ r v))

theorem blk1 (c : Dev nD) (r : Fin 768) (v : Fin 65536) :
    (iblk m c 1 t0_0 : FVec Ideal S768x65536 .bf16) (ix2 r v) = refScale (m ((c : Thread nD τ).loc main_arg0)) (ix2 ⟨v.val / 1024, by omega⟩ r) :=
  (read1 c (V m c) r v).trans ((congrFun (v40 m c) (ix2 r v)).trans (expanded_at _ r v))

theorem blk2 (c : Dev nD) (r : Fin 768) (l : Fin 64) :
    (iblk m c 2 t0_0 : FVec Ideal S768x64 .f32) (ix2 r l) = refScale (m ((c : Thread nD τ).loc main_arg0)) (ix2 l r) :=
  (read2 c (V m c) r l).trans ((congrFun (v43 m c) (ix2 r l)).trans (rows_at _ r l))

theorem blk3 (c : Dev nD) (v : Fin 65536) (d : Fin 1536) : (iblk m c 3 t0_0 : FVec Ideal S65536x1536 .fp8e4m3) (ix2 v d) = W m c v d :=
  (read3 c (V m c) v d).trans rfl

theorem blk4 (c : Dev nD) (v : Fin 65536) : (iblk m c 4 t0_0 : FVec Ideal S65536x1 .bf16) (ix2 v 0) = U m c ⟨v.val / 1024, by omega⟩ ⟨v.val % 1024, by omega⟩ :=
  (read4 c (V m c) v).trans ((congrFun (v42 m c) (ix2 v 0)).trans (weights_at _ v))

theorem blk5 (c : Dev nD) (r : Fin 768) (d : Fin 1536) : (iblk m c 5 t0_0 : FVec Ideal S768x1536 .bf16) (ix2 r d) = H m c r d :=
  (read5 c (V m c) r d).trans rfl

theorem pay4_at (Y : Vec Ideal S768x64 .f32) (x : S768x64.Idx) : k0_pay4 Y x = Y x := by
  pointwise [k0_pay4]

theorem pay5_at (x : S768x64.Idx) : k0_pay5 (F := Ideal) x = (1 : EReal) := by
  pointwise [k0_pay5]

theorem final6 (c : Dev nD) : (dats m 0 c).arrAt 6 (cfgs 0).N = fun j : S65536x1536.Idx => headOf (Z m c) (H m c) (j 0) (j 1) := by
  refine (dats m 0 c).arrAt_eq_of_after_last 6 t0_0 (by decide +kernel) _ fun j => ?_
  rw [after0_6]
  frame_out
  idx_vars j
  refine (head_at _ _ _ j0 j1).trans ?_
  simp only [blk0, blk1, blk5, refCodes_at, refScale_at]
  unfold headOf gOf
  rfl

theorem final7 (c : Dev nD) : (dats m 0 c).arrAt 7 (cfgs 0).N = fun j : S768x1536.Idx => hidOf (Z m c) (W m c) (U m c) (j 0) (j 1) := by
  refine (dats m 0 c).arrAt_eq_of_after_last 7 t0_0 (by decide +kernel) _ fun j => ?_
  rw [after0_7]
  frame_out
  idx_vars j
  refine (hid_at _ _ _ _ j0 j1).trans ?_
  simp only [blk0, blk1, blk3, blk4, refCodes_at, refScale_at]
  unfold hidOf gOf
  rfl

theorem out8_at (X0 : Vec Ideal S768x65536 .f32) (X1 : Vec Ideal S768x65536 .bf16) (X2 : Vec Ideal S768x64 .f32) (X3 : Vec Ideal S65536x1536 .fp8e4m3)
    (X4 : Vec Ideal S65536x1 .bf16) (X5 : Vec Ideal S768x1536 .bf16) (r : Fin 768) (l : Fin 128) :
    out0_8 X0 X1 X2 X3 X4 X5 (ix2 r l) = if h : l.val < 64 then X2 (ix2 r ⟨l.val, h⟩) else (1 : EReal) := by
  frame_out
  canon_tiles x h
  · have e : l.val = 64 + (x 1).val := h1
    have hn : ¬l.val < 64 := by rw [e]; exact Nat.not_lt.2 (Nat.le_add_right 64 _)
    refine (pay5_at x).trans ?_
    rw [dif_neg hn]
  · have e0 : r.val = (x 0).val := h0
    have e1 : l.val = (x 1).val := h1
    refine (pay4_at X2 x).trans ?_
    refine Eq.trans ?_ (dif_pos (show l.val < 64 from e1 ▸ (x 1).isLt)).symm
    idx_vars x
    have e0 : x0 = r := Fin.ext e0.symm
    have e1 : x1 = (⟨l.val, e1 ▸ x1.isLt⟩ : Fin 64) := Fin.ext e1.symm
    exact congrArg X2 (congrArg₂ ix2 e0 e1)

theorem final8 (c : Dev nD) : (dats m 0 c).arrAt 8 (cfgs 0).N = fun j : S768x128.Idx => sclOf (Z m c) (j 0) (j 1) := by
  refine (dats m 0 c).arrAt_eq_of_after_last 8 t0_0 (by decide +kernel) _ fun j => ?_
  rw [after0_8]
  idx_vars j
  refine (out8_at (iblk m c 0 t0_0) (iblk m c 1 t0_0) (iblk m c 2 t0_0) (iblk m c 3 t0_0) (iblk m c 4 t0_0) (iblk m c 5 t0_0) j0 j1).trans ?_
  change _ = sclOf (Z m c) j0 j1
  by_cases h : j1.val < 64
  · refine (dif_pos h).trans (((blk2 m c j0 ⟨j1.val, h⟩).trans (refScale_at _ _ _)).trans ?_)
    unfold sclOf
    rw [dif_pos h]
  · unfold sclOf
    rw [dif_neg h, dif_neg h]

end Cert.ReferenceIdeal.Value

end
-- ==== Proof.LogitsTile.lean ====
/- The logits kernel's stores, as vectors: 128 rows of the hidden rows' scales, a tile of their codes, 256 columns of the
   product, and a tile of the logits; and what each holds at an index. -/
module

public import proofs.«01_k».proof.Proof.Gen.LogitsIdeal.Skeleton
public import Idealize.ShloMosaic.Lib.Pipeline.ValueKit
public import Idealize.ShloMosaic.Lib.Pointwise

@[expose] public section

set_option maxRecDepth 16384

noncomputable section

namespace Cert.LogitsIdeal.Value

open Cert.LogitsIdeal Cert.LogitsIdeal.Gen Idealize.ShloMosaic Idealize.ShloMosaic.TcCoe Idealize.SL.Sem

theorem column_at (v : FVec Ideal S1x128 .f32) (r l : Fin 128) :
    (shapeCast S128x128 (transpose S128x128 [1, 0] (broadcastTo S128x128 (shapeCast S1x128 v shapeCasts_S1x128_S1x128 : FVec Ideal S1x128 .f32)
      broadcasts_S1x128_S128x128) transposes_S128x128_p1_0_S128x128) shapeCasts_S128x128_S128x128 : FVec Ideal S128x128 .f32) (ix2 r l) = v (ix2 0 r) := by
  pointwise

theorem same_at (v : FVec Ideal S32x128 .fp8e4m3) (r : Fin 32) (l : Fin 128) :
    (shapeCast S32x128 v shapeCasts_S32x128_S32x128 : FVec Ideal S32x128 .fp8e4m3) (ix2 r l) = v (ix2 r l) := by
  pointwise

theorem dot_at (P : Vec Ideal S768x1536 .fp8e4m3) (W : Vec Ideal S256x1536 .fp8e4m3) (r : Fin 768) (k : Fin 256) :
    (shapeCast S768x256 (matmul (φ₁ := .fp8e4m3) (φ₂ := .fp8e4m3) dot_S768x1536_S256x1536_S768x256_1_1_0_0_n_n none P W (constant S768x256 .f32 0x00000000#32) :
        FVec Ideal S768x256 .f32) shapeCasts_S768x256_S768x256 : FVec Ideal S768x256 .f32) (ix2 r k)
      = ∑ d : Fin 1536, (P (ix2 r d) * W (ix2 k d) : EReal) := by
  pointwise

theorem scaled_at (Z S : FVec Ideal S16x128 .f32) (u : Vec Ideal S1x1x128 .f32) (r : Fin 16) (k : Fin 128) :
    (shapeCast S1x16x128 (mulf Z (mulf S (broadcastTo S16x128 (shapeCast S1x128 u shapeCasts_S1x1x128_S1x128 : FVec Ideal S1x128 .f32)
      broadcasts_S1x128_S16x128))) shapeCasts_S16x128_S1x16x128 : FVec Ideal S1x16x128 .f32) (ix3 0 r k)
      = (Z (ix2 r k) * (S (ix2 r k) * u (ix3 0 0 k)) : EReal) := by
  pointwise

/-- Row `b` of the scales, down 128 rows. -/
def colTile (A : Vec Ideal S6x128 .f32) (b : ℕ) (hb : b + 1 ≤ 6) : FVec Ideal S128x128 .f32 :=
  shapeCast S128x128 (transpose S128x128 [1, 0] (broadcastTo S128x128 (shapeCast S1x128
    (View.ld A (Rect.unit (s := S6x128) ![b, 0] ![1, 128] (by intro i; fin_cases i <;> simp [S6x128] <;> omega)) : Vec Ideal S1x128 .f32)
      shapeCasts_S1x128_S1x128 : FVec Ideal S1x128 .f32) broadcasts_S1x128_S128x128) transposes_S128x128_p1_0_S128x128) shapeCasts_S128x128_S128x128

/-- A 32-by-128 tile of the codes. -/
def codeTile (H : Vec Ideal S768x1536 .fp8e4m3) (a b : ℕ) (ha : a + 32 ≤ 768) (hb : b + 128 ≤ 1536) : FVec Ideal S32x128 .fp8e4m3 :=
  shapeCast S32x128 (View.ld H (Rect.unit (s := S768x1536) ![a, b] ![32, 128] (by intro i; fin_cases i <;> simp [S768x1536] <;> omega)) :
    Vec Ideal S32x128 .fp8e4m3) shapeCasts_S32x128_S32x128

/-- 256 columns of the product, from column `b`. -/
def dotTile (P : Vec Ideal S768x1536 .fp8e4m3) (W : Vec Ideal S1024x1536 .fp8e4m3) (b : ℕ) (hb : b + 256 ≤ 1024) : FVec Ideal S768x256 .f32 :=
  shapeCast S768x256 (matmul (φ₁ := .fp8e4m3) (φ₂ := .fp8e4m3) dot_S768x1536_S256x1536_S768x256_1_1_0_0_n_n none P
    (View.ld W (Rect.unit (s := S1024x1536) ![b, 0] ![256, 1536] (by intro i; fin_cases i <;> simp [S1024x1536] <;> omega)) : Vec Ideal S256x1536 .fp8e4m3)
    (constant S768x256 .f32 0x00000000#32) : FVec Ideal S768x256 .f32) shapeCasts_S768x256_S768x256

/-- A 16-by-128 tile of the logits. -/
def logitTile (Z : Vec Ideal S768x1024 .f32) (S : Vec Ideal S768x128 .f32) (U : Vec Ideal S1x1x1024 .f32) (a b : ℕ) (ha : a + 16 ≤ 768) (hb : b + 128 ≤ 1024) :
    FVec Ideal S1x16x128 .f32 :=
  shapeCast S1x16x128 (mulf
    (View.ld Z (Rect.unit (s := S768x1024) ![a, b] ![16, 128] (by intro i; fin_cases i <;> simp [S768x1024] <;> omega)) : FVec Ideal S16x128 .f32)
    (mulf (View.ld S (Rect.unit (s := S768x128) ![a, 0] ![16, 128] (by intro i; fin_cases i <;> simp [S768x128] <;> omega)) : FVec Ideal S16x128 .f32)
      (broadcastTo S16x128 (shapeCast S1x128 (View.ld U (Rect.unit (s := S1x1x1024) ![0, 0, b] ![1, 1, 128]
        (by intro i; fin_cases i <;> simp [S1x1x1024] <;> omega)) : Vec Ideal S1x1x128 .f32) shapeCasts_S1x1x128_S1x128 : FVec Ideal S1x128 .f32)
        broadcasts_S1x128_S16x128))) shapeCasts_S16x128_S1x16x128

theorem colTile_at (A : Vec Ideal S6x128 .f32) {b : ℕ} {hb : b + 1 ≤ 6} (x : S128x128.Idx) (r : Fin 768) (l : Fin 128)
    (hr : r.val = b * 128 + (x 0).val) (hl : l.val = (x 1).val) :
    colTile A b hb x = A (ix2 ⟨r.val / 128, by omega⟩ ⟨r.val % 128, by omega⟩) := by
  idx_vars x
  have hr : r.val = b * 128 + x0.val := hr
  refine (column_at _ x0 x1).trans (View.ld_unit_apply_of _ _ _ _ _ _ fun i => ?_)
  fin_cases i
  · show r.val / 128 = b + 0
    omega
  · show r.val % 128 = 0 + x0.val
    omega

theorem codeTile_at (H : Vec Ideal S768x1536 .fp8e4m3) {a b : ℕ} {ha : a + 32 ≤ 768} {hb : b + 128 ≤ 1536} (x : S32x128.Idx) (r : Fin 768) (d : Fin 1536)
    (hr : r.val = a + (x 0).val) (hd : d.val = b + (x 1).val) : codeTile H a b ha hb x = H (ix2 r d) := by
  idx_vars x
  refine (same_at _ x0 x1).trans (View.ld_unit_apply_of _ _ _ _ _ _ fun i => ?_)
  fin_cases i
  · exact hr
  · exact hd

theorem dotTile_at (P : Vec Ideal S768x1536 .fp8e4m3) (W : Vec Ideal S1024x1536 .fp8e4m3) {b : ℕ} {hb : b + 256 ≤ 1024} (x : S768x256.Idx)
    (r : Fin 768) (k : Fin 1024) (hr : r.val = (x 0).val) (hk : k.val = b + (x 1).val) :
    dotTile P W b hb x = ∑ d : Fin 1536, (P (ix2 r d) * W (ix2 k d) : EReal) := by
  idx_vars x
  obtain rfl : r = x0 := Fin.ext hr
  refine (dot_at _ _ r x1).trans (Fin.sum_fin_congr fun d => ?_)
  refine congrArg (P (ix2 r d) * ·) (View.ld_unit_apply_of _ _ _ _ _ _ fun i => ?_)
  fin_cases i
  · exact hk
  · exact (Nat.zero_add _).symm

theorem logitTile_at (Z : Vec Ideal S768x1024 .f32) (S : Vec Ideal S768x128 .f32) (U : Vec Ideal S1x1x1024 .f32) {a b : ℕ} {ha : a + 16 ≤ 768} {hb : b + 128 ≤ 1024}
    (f : Fin 768 → EReal) (hS : ∀ (r : Fin 768) (l : Fin 128), S (ix2 r l) = f r) (x : S1x16x128.Idx) (r : Fin 768) (k : Fin 1024)
    (hr : r.val = a + (x 1).val) (hk : k.val = b + (x 2).val) :
    logitTile Z S U a b ha hb x = (Z (ix2 r k) * (f r * U (ix3 0 0 k)) : EReal) := by
  idx_vars x
  obtain rfl : x0 = 0 := Subsingleton.elim _ _
  refine (scaled_at _ _ _ x1 x2).trans (congrArg₂ (fun a b : EReal => a * b) ?_ (congrArg₂ (fun a b : EReal => a * b) ?_ ?_))
  · refine View.ld_unit_apply_of _ _ _ _ _ _ fun i => ?_
    fin_cases i
    · exact hr
    · exact hk
  · refine (View.ld_unit_apply_of _ _ _ _ _ (ix2 r x2) fun i => ?_).trans (hS r x2)
    fin_cases i
    · exact hr
    · exact (Nat.zero_add _).symm
  · refine View.ld_unit_apply_of _ _ _ _ _ _ fun i => ?_
    fin_cases i
    · rfl
    · rfl
    · exact hk

end Cert.LogitsIdeal.Value

end
-- ==== Proof.LogitsState.lean ====
/- What a point leaves of the logits kernel's tiles, by the case it runs: the block's product in the scratch, and the product
   the point before left, scaled, in the result. -/
module

public import proofs.«01_k».proof.Proof.Gen.LogitsIdeal.Value
public import proofs.«01_k».proof.Proof.LogitsTile
public import Idealize.ShloMosaic.Lib.Pipeline.ReadBack

@[expose] public section

set_option maxRecDepth 16384

noncomputable section

namespace Cert.LogitsIdeal.Value

open Cert.LogitsIdeal Cert.LogitsIdeal.Gen Idealize.ShloMosaic Idealize.ShloMosaic.TcCoe Idealize.SL.Sem
open Idealize.ShloMosaic.Pipeline (Dat)

variable (m : (ℓ : Loc nD τ sig) → Buf (Elt Ideal) ℓ)

/-- The point before `t`. -/
abbrev before (t : Fin cfg0.N) : Fin cfg0.N := ⟨t.val - 1, Nat.lt_of_le_of_lt (Nat.sub_le _ _) t.isLt⟩

/-- The codes the scratch holds after point `t`, the scales, and the two products. -/
abbrev hcS (c : Dev nD) (t : Fin cfg0.N) : Vec Ideal S768x1536 .fp8e4m3 := (outsAt0 m c t.val t.isLt).2.1
abbrev hsS (c : Dev nD) (t : Fin cfg0.N) : Vec Ideal S768x128 .f32 := (outsAt0 m c t.val t.isLt).2.2.1
abbrev zr0 (c : Dev nD) (t : Fin cfg0.N) : Vec Ideal S768x1024 .f32 := (outsAt0 m c t.val t.isLt).2.2.2.1
abbrev zr1 (c : Dev nD) (t : Fin cfg0.N) : Vec Ideal S768x1024 .f32 := (outsAt0 m c t.val t.isLt).2.2.2.2

theorem kept_B (c : Dev nD) (t : Fin cfg0.N) (g0 : ¬t.val % 65 = 0) (g1 : t.val % 2 = 1) (g2 : 1 ≤ t.val % 65 ∧ t.val % 65 ≤ 63) (g3 : ¬t.val % 65 = 64) (g4 : ¬t.val % 2 = 0) :
    hcS m c t = hcS m c (before t) ∧ hsS m c t = hsS m c (before t) := by
  unfold hcS hsS
  rw [outsAt0_B m c t g0 g1 g2 g3 g4]
  exact ⟨rfl, rfl⟩

theorem kept_C (c : Dev nD) (t : Fin cfg0.N) (g0 : ¬t.val % 65 = 0) (g1 : ¬t.val % 2 = 1) (g2 : 1 ≤ t.val % 65 ∧ t.val % 65 ≤ 63) (g3 : ¬t.val % 65 = 64) (g4 : t.val % 2 = 0) :
    hcS m c t = hcS m c (before t) ∧ hsS m c t = hsS m c (before t) := by
  unfold hcS hsS
  rw [outsAt0_C m c t g0 g1 g2 g3 g4]
  exact ⟨rfl, rfl⟩

theorem zr1_B (c : Dev nD) (t : Fin cfg0.N) (g0 : ¬t.val % 65 = 0) (g1 : t.val % 2 = 1) (g2 : 1 ≤ t.val % 65 ∧ t.val % 65 ≤ 63) (g3 : ¬t.val % 65 = 64) (g4 : ¬t.val % 2 = 0)
    (r : Fin 768) (k : Fin 1024) :
    (outsAt0 m c t.val t.isLt).2.2.2.2 (ix2 r k)
      = ∑ d : Fin 1536, (hcS m c (before t) (ix2 r d) * (iblk m c 2 t : Vec Ideal S1024x1536 .fp8e4m3) (ix2 k d) : EReal) := by
  rw [outsAt0_B m c t g0 g1 g2 g3 g4]
  dsimp only
  frame_out
  clear g0 g1 g2 g3 g4
  simp only [read_unread_whole]
  canon_tiles x h
  all_goals try replace h1 : (ix2 r k 1).val = 0 + (x 1).val := h1.trans (Nat.zero_add _).symm
  all_goals refine Eq.trans ?_ (dotTile_at (hcS m c (before t)) (iblk m c 2 t) (hb := by decide) x r k h0 h1)
  all_goals sl_kernel_rfl

theorem zr0_C (c : Dev nD) (t : Fin cfg0.N) (g0 : ¬t.val % 65 = 0) (g1 : ¬t.val % 2 = 1) (g2 : 1 ≤ t.val % 65 ∧ t.val % 65 ≤ 63) (g3 : ¬t.val % 65 = 64) (g4 : t.val % 2 = 0)
    (r : Fin 768) (k : Fin 1024) :
    (outsAt0 m c t.val t.isLt).2.2.2.1 (ix2 r k)
      = ∑ d : Fin 1536, (hcS m c (before t) (ix2 r d) * (iblk m c 2 t : Vec Ideal S1024x1536 .fp8e4m3) (ix2 k d) : EReal) := by
  rw [outsAt0_C m c t g0 g1 g2 g3 g4]
  dsimp only
  frame_out
  clear g0 g1 g2 g3 g4
  simp only [read_unread_whole]
  canon_tiles x h
  all_goals try replace h1 : (ix2 r k 1).val = 0 + (x 1).val := h1.trans (Nat.zero_add _).symm
  all_goals refine Eq.trans ?_ (dotTile_at (hcS m c (before t)) (iblk m c 2 t) (hb := by decide) x r k h0 h1)
  all_goals sl_kernel_rfl

end Cert.LogitsIdeal.Value

end
-- ==== Proof.LogitsCodes.lean ====
/- What the first point leaves in the scratch: the hidden rows' codes. -/
module

public import proofs.«01_k».proof.Proof.LogitsState

@[expose] public section

set_option maxRecDepth 16384

noncomputable section

namespace Cert.LogitsIdeal.Value

open Cert.LogitsIdeal Cert.LogitsIdeal.Gen Idealize.ShloMosaic Idealize.ShloMosaic.TcCoe Idealize.SL.Sem
open Idealize.ShloMosaic.Pipeline (Dat)

variable (m : (ℓ : Loc nD τ sig) → Buf (Elt Ideal) ℓ)

set_option maxHeartbeats 0 in
theorem codes_A (c : Dev nD) (t : Fin cfg0.N) (g0 : t.val % 65 = 0) (g1 : ¬t.val % 2 = 1) (g2 : ¬(1 ≤ t.val % 65 ∧ t.val % 65 ≤ 63)) (g3 : ¬t.val % 65 = 64)
    (r : Fin 768) (d : Fin 1536) : hcS m c t (ix2 r d) = (iblk m c 0 t : Vec Ideal S768x1536 .fp8e4m3) (ix2 r d) := by
  unfold hcS
  rw [outsAt0_A m c t g0 g1 g2 g3]
  dsimp only
  frame_out
  clear g0 g1 g2 g3
  canon_tiles x h
  all_goals try replace h0 : (ix2 r d 0).val = 0 + (x 0).val := h0.trans (Nat.zero_add _).symm
  all_goals try replace h1 : (ix2 r d 1).val = 0 + (x 1).val := h1.trans (Nat.zero_add _).symm
  all_goals refine Eq.trans ?_ (codeTile_at (iblk m c 0 t) (ha := by decide) (hb := by decide) x r d h0 h1)
  all_goals sl_kernel_rfl

end Cert.LogitsIdeal.Value

end
-- ==== Proof.LogitsScales.lean ====
/- What the first point leaves in the scratch: the hidden rows' scales, each down a row of lanes. -/
module

public import proofs.«01_k».proof.Proof.LogitsState

@[expose] public section

set_option maxRecDepth 16384

noncomputable section

namespace Cert.LogitsIdeal.Value

open Cert.LogitsIdeal Cert.LogitsIdeal.Gen Idealize.ShloMosaic Idealize.ShloMosaic.TcCoe Idealize.SL.Sem
open Idealize.ShloMosaic.Pipeline (Dat)

variable (m : (ℓ : Loc nD τ sig) → Buf (Elt Ideal) ℓ)

/-- `colTile_at`, with the tile's first row given. -/
theorem colTile_from (A : Vec Ideal S6x128 .f32) {a : ℕ} {hb : a / 128 + 1 ≤ 6} (ha : a % 128 = 0) (x : S128x128.Idx) (r : Fin 768) (l : Fin 128)
    (hr : r.val = a + (x 0).val) (hl : l.val = (x 1).val) :
    colTile A (a / 128) hb x = A (ix2 ⟨r.val / 128, by omega⟩ ⟨r.val % 128, by omega⟩) :=
  colTile_at A x r l (by omega) hl

theorem scales_A (c : Dev nD) (t : Fin cfg0.N) (g0 : t.val % 65 = 0) (g1 : ¬t.val % 2 = 1) (g2 : ¬(1 ≤ t.val % 65 ∧ t.val % 65 ≤ 63)) (g3 : ¬t.val % 65 = 64)
    (r : Fin 768) (l : Fin 128) :
    hsS m c t (ix2 r l) = (iblk m c 1 t : Vec Ideal S6x128 .f32) (ix2 ⟨r.val / 128, by omega⟩ ⟨r.val % 128, by omega⟩) := by
  unfold hsS
  rw [outsAt0_A m c t g0 g1 g2 g3]
  dsimp only
  frame_out
  clear g0 g1 g2 g3
  canon_tiles x h
  all_goals try replace h0 : (ix2 r l 0).val = 0 + (x 0).val := h0.trans (Nat.zero_add _).symm
  all_goals refine Eq.trans ?_ (colTile_from (iblk m c 1 t) (hb := by decide) (by decide) x r l h0 h1)
  all_goals sl_kernel_rfl

end Cert.LogitsIdeal.Value

end
-- ==== Proof.LogitsFirst.lean ====
/- What the first point leaves in the scratch: the first block's product. -/
module

public import proofs.«01_k».proof.Proof.LogitsState
public import Idealize.ShloMosaic.Lib.VecWindow

@[expose] public section

set_option maxRecDepth 16384

noncomputable section

namespace Cert.LogitsIdeal.Value

open Cert.LogitsIdeal Cert.LogitsIdeal.Gen Idealize.ShloMosaic Idealize.ShloMosaic.TcCoe Idealize.SL.Sem
open Idealize.ShloMosaic.Pipeline (Dat)

variable (m : (ℓ : Loc nD τ sig) → Buf (Elt Ideal) ℓ)

/-- A load of the whole buffer reads what the stores before it left. -/
theorem readCov_all {sig : RefSig} {κ : Kind} {sp : Space} {S : Shape} {e : EltTy} {Val : EltTy → Type} [∀ e, Nonempty (Val e)] (v : View sig κ sp S e)
    (L : List (View.Piece Val S e)) {off : Fin S.rank → ℕ} (inb : ∀ a, off a + S.size a ≤ S.size a) :
    v.readCov L (Rect.unit off (no_index S.size) inb).toLoadRect = View.canon L := by
  rw [View.readCov_eq_canon']
  exact funext fun j => congrArg (View.canon L) (Rect.emb_unit_full inb j)

set_option maxHeartbeats 0 in
theorem zr0_A (c : Dev nD) (t : Fin cfg0.N) (g0 : t.val % 65 = 0) (g1 : ¬t.val % 2 = 1) (g2 : ¬(1 ≤ t.val % 65 ∧ t.val % 65 ≤ 63)) (g3 : ¬t.val % 65 = 64)
    (C : Vec Ideal S768x1536 .fp8e4m3) (hC : hcS m c t = C) (r : Fin 768) (k : Fin 1024) :
    zr0 m c t (ix2 r k) = ∑ d : Fin 1536, (C (ix2 r d) * (iblk m c 2 t : Vec Ideal S1024x1536 .fp8e4m3) (ix2 k d) : EReal) := by
  unfold hcS at hC
  unfold zr0
  rw [outsAt0_A m c t g0 g1 g2 g3] at hC ⊢
  dsimp only at hC ⊢
  frame_out at hC
  frame_out
  clear g0 g1 g2 g3
  simp only [readCov_all]
  rw [hC]
  clear hC
  canon_tiles x h
  all_goals try replace h1 : (ix2 r k 1).val = 0 + (x 1).val := h1.trans (Nat.zero_add _).symm
  all_goals refine Eq.trans ?_ (dotTile_at C (iblk m c 2 t) (hb := by decide) x r k h0 h1)
  all_goals sl_kernel_rfl

end Cert.LogitsIdeal.Value

end
-- ==== Proof.LogitsOut.lean ====
/- The logits a point leaves in the result: the product the point before left in the scratch, scaled. -/
module

public import proofs.«01_k».proof.Proof.LogitsState

@[expose] public section

set_option maxRecDepth 16384

noncomputable section

namespace Cert.LogitsIdeal.Value

open Cert.LogitsIdeal Cert.LogitsIdeal.Gen Idealize.ShloMosaic Idealize.ShloMosaic.TcCoe Idealize.SL.Sem
open Idealize.ShloMosaic.Pipeline (Dat)

variable (m : (ℓ : Loc nD τ sig) → Buf (Elt Ideal) ℓ)

set_option maxHeartbeats 0 in
theorem logit_D (c : Dev nD) (t : Fin cfg0.N) (g0 : ¬t.val % 65 = 0) (g1 : ¬t.val % 2 = 1) (g2 : ¬(1 ≤ t.val % 65 ∧ t.val % 65 ≤ 63)) (g3 : t.val % 65 = 64)
    (f : Fin 768 → EReal) (hf : ∀ (r : Fin 768) (l : Fin 128), hsS m c (before t) (ix2 r l) = f r) (r : Fin 768) (k : Fin 1024) :
    (outsAt0 m c t.val t.isLt).1 (ix3 0 r k)
      = (zr1 m c (before t) (ix2 r k) * (f r * (iblk m c 3 t : Vec Ideal S1x1x1024 .f32) (ix3 0 0 k)) : EReal) := by
  rw [outsAt0_D m c t g0 g1 g2 g3]
  dsimp only
  frame_out
  clear g0 g1 g2 g3
  simp only [read_unread_whole]
  canon_tiles x h
  all_goals try replace h1 : (ix3 (0 : Fin 1) r k 1).val = 0 + (x 1).val := h1.trans (Nat.zero_add _).symm
  all_goals try replace h2 : (ix3 (0 : Fin 1) r k 2).val = 0 + (x 2).val := h2.trans (Nat.zero_add _).symm
  all_goals refine Eq.trans ?_ (logitTile_at (zr1 m c (before t)) (hsS m c (before t)) (iblk m c 3 t) (ha := by decide) (hb := by decide) f hf x r k h1 h2)
  all_goals sl_kernel_rfl

end Cert.LogitsIdeal.Value

end
-- ==== Proof.LogitsOutOdd.lean ====
/- The logits an odd point leaves in the result: the product the even point before left in the scratch, scaled. -/
module

public import proofs.«01_k».proof.Proof.LogitsState

@[expose] public section

set_option maxRecDepth 16384

noncomputable section

namespace Cert.LogitsIdeal.Value

open Cert.LogitsIdeal Cert.LogitsIdeal.Gen Idealize.ShloMosaic Idealize.ShloMosaic.TcCoe Idealize.SL.Sem
open Idealize.ShloMosaic.Pipeline (Dat)

variable (m : (ℓ : Loc nD τ sig) → Buf (Elt Ideal) ℓ)

set_option maxHeartbeats 0 in
theorem logit_B (c : Dev nD) (t : Fin cfg0.N) (g0 : ¬t.val % 65 = 0) (g1 : t.val % 2 = 1) (g2 : 1 ≤ t.val % 65 ∧ t.val % 65 ≤ 63) (g3 : ¬t.val % 65 = 64) (g4 : ¬t.val % 2 = 0)
    (f : Fin 768 → EReal) (hf : ∀ (r : Fin 768) (l : Fin 128), hsS m c (before t) (ix2 r l) = f r) (r : Fin 768) (k : Fin 1024) :
    (outsAt0 m c t.val t.isLt).1 (ix3 0 r k)
      = (zr0 m c (before t) (ix2 r k) * (f r * (iblk m c 3 t : Vec Ideal S1x1x1024 .f32) (ix3 0 0 k)) : EReal) := by
  rw [outsAt0_B m c t g0 g1 g2 g3 g4]
  dsimp only
  frame_out
  clear g0 g1 g2 g3 g4
  simp only [read_unread_whole]
  canon_tiles x h
  all_goals try replace h1 : (ix3 (0 : Fin 1) r k 1).val = 0 + (x 1).val := h1.trans (Nat.zero_add _).symm
  all_goals try replace h2 : (ix3 (0 : Fin 1) r k 2).val = 0 + (x 2).val := h2.trans (Nat.zero_add _).symm
  all_goals refine Eq.trans ?_ (logitTile_at (zr0 m c (before t)) (hsS m c (before t)) (iblk m c 3 t) (ha := by decide) (hb := by decide) f hf x r k h1 h2)
  all_goals sl_kernel_rfl

end Cert.LogitsIdeal.Value

end
-- ==== Proof.LogitsOutEven.lean ====
/- The logits an even point leaves in the result: the product the odd point before left in the scratch, scaled. -/
module

public import proofs.«01_k».proof.Proof.LogitsState

@[expose] public section

set_option maxRecDepth 16384

noncomputable section

namespace Cert.LogitsIdeal.Value

open Cert.LogitsIdeal Cert.LogitsIdeal.Gen Idealize.ShloMosaic Idealize.ShloMosaic.TcCoe Idealize.SL.Sem
open Idealize.ShloMosaic.Pipeline (Dat)

variable (m : (ℓ : Loc nD τ sig) → Buf (Elt Ideal) ℓ)

set_option maxHeartbeats 0 in
theorem logit_C (c : Dev nD) (t : Fin cfg0.N) (g0 : ¬t.val % 65 = 0) (g1 : ¬t.val % 2 = 1) (g2 : 1 ≤ t.val % 65 ∧ t.val % 65 ≤ 63) (g3 : ¬t.val % 65 = 64) (g4 : t.val % 2 = 0)
    (f : Fin 768 → EReal) (hf : ∀ (r : Fin 768) (l : Fin 128), hsS m c (before t) (ix2 r l) = f r) (r : Fin 768) (k : Fin 1024) :
    (outsAt0 m c t.val t.isLt).1 (ix3 0 r k)
      = (zr1 m c (before t) (ix2 r k) * (f r * (iblk m c 3 t : Vec Ideal S1x1x1024 .f32) (ix3 0 0 k)) : EReal) := by
  rw [outsAt0_C m c t g0 g1 g2 g3 g4]
  dsimp only
  frame_out
  clear g0 g1 g2 g3 g4
  simp only [read_unread_whole]
  canon_tiles x h
  all_goals try replace h1 : (ix3 (0 : Fin 1) r k 1).val = 0 + (x 1).val := h1.trans (Nat.zero_add _).symm
  all_goals try replace h2 : (ix3 (0 : Fin 1) r k 2).val = 0 + (x 2).val := h2.trans (Nat.zero_add _).symm
  all_goals refine Eq.trans ?_ (logitTile_at (zr1 m c (before t)) (hsS m c (before t)) (iblk m c 3 t) (ha := by decide) (hb := by decide) f hf x r k h1 h2)
  all_goals sl_kernel_rfl

end Cert.LogitsIdeal.Value

end
-- ==== Proof.LogitsSpec.lean ====
/- The logits, as both programs state them. -/
module

public import Idealize.ShloMosaic.PureOps.Ideal

@[expose] public section

noncomputable section

namespace Cert.Logit

/-- A logit: the product of a hidden row and a head row, times the two rows' scales. -/
def logitOf (H : Fin 768 → Fin 1536 → EReal) (A : Fin 768 → EReal) (W : Fin 65536 → Fin 1536 → EReal) (U : Fin 64 → Fin 1024 → EReal)
    (a : Fin 64) (r : Fin 768) (k : Fin 1024) : EReal :=
  (∑ d : Fin 1536, H r d * W ⟨a.val * 1024 + k.val, by omega⟩ d) * (A r * U a k)

end Cert.Logit

end
-- ==== Proof.LogitsValue.lean ====
/- The logits kernel's result, one function of its arguments. -/
module

public import proofs.«01_k».proof.Proof.LogitsCodes
public import proofs.«01_k».proof.Proof.LogitsScales
public import proofs.«01_k».proof.Proof.LogitsFirst
public import proofs.«01_k».proof.Proof.LogitsOut
public import proofs.«01_k».proof.Proof.LogitsOutOdd
public import proofs.«01_k».proof.Proof.LogitsOutEven
public import proofs.«01_k».proof.Proof.LogitsSpec

@[expose] public section

set_option maxRecDepth 16384

noncomputable section

namespace Cert.LogitsIdeal.Value

open Cert.LogitsIdeal Cert.LogitsIdeal.Gen Idealize.ShloMosaic Idealize.ShloMosaic.TcCoe Idealize.SL.Sem
open Idealize.ShloMosaic.Pipeline (Dat)
open Cert.Logit

variable (m : (ℓ : Loc nD τ sig) → Buf (Elt Ideal) ℓ)

/-- The hidden rows' codes. -/
abbrev H (c : Dev nD) (r : Fin 768) (d : Fin 1536) : EReal := (m ((c : Thread nD τ).loc main_arg0) : FVec Ideal S768x1536 .fp8e4m3) (ix2 r d)

/-- Their scales, in six rows of 128. -/
abbrev A (c : Dev nD) (r : Fin 768) : EReal :=
  (m ((c : Thread nD τ).loc main_arg1) : FVec Ideal S6x128 .f32) (ix2 ⟨r.val / 128, by omega⟩ ⟨r.val % 128, by omega⟩)

/-- The head's rows. -/
abbrev W (c : Dev nD) (v : Fin 65536) (d : Fin 1536) : EReal := (m ((c : Thread nD τ).loc main_arg2) : FVec Ideal S65536x1536 .fp8e4m3) (ix2 v d)

/-- The head's scales. -/
abbrev U (c : Dev nD) (a : Fin 64) (k : Fin 1024) : EReal := (m ((c : Thread nD τ).loc main_arg3) : FVec Ideal S64x1x1024 .f32) (ix3 a 0 k)

theorem idx : ∀ t : Fin cfg0.N, win0_0.index t = ![0, 0] ∧ win0_1.index t = ![0, 0] ∧ win0_2.index t = ![min t.val 63, 0]
    ∧ win0_3.index t = ![t.val - 1, 0, 0] ∧ win0_4.index t = ![t.val - 1, 0, 0] :=
  (by decide +kernel : ∀ t : Fin grid0.N, _)

theorem flush4 : ∀ t : Fin cfg0.N, (cfg0.win 4).flush t = true → 1 ≤ t.val := (by decide +kernel : ∀ t : Fin grid0.N, _)

theorem lt65 (t : Fin cfg0.N) : t.val < 65 := lt_of_lt_of_eq t.isLt N_0

theorem blk0 (c : Dev nD) (t : Fin cfg0.N) (r : Fin 768) (d : Fin 1536) :
    (iblk m c 0 t : Vec Ideal S768x1536 .fp8e4m3) (ix2 r d) = H m c r d := by
  blk_point [iblk, V, idx t]

theorem blk1 (c : Dev nD) (t : Fin cfg0.N) (a : Fin 6) (b : Fin 128) :
    (iblk m c 1 t : Vec Ideal S6x128 .f32) (ix2 a b) = (m ((c : Thread nD τ).loc main_arg1) : FVec Ideal S6x128 .f32) (ix2 a b) := by
  blk_point [iblk, V, idx t]

theorem blk2 (c : Dev nD) (t : Fin cfg0.N) (k : Fin 1024) (d : Fin 1536) :
    (iblk m c 2 t : Vec Ideal S1024x1536 .fp8e4m3) (ix2 k d) = W m c ⟨min t.val 63 * 1024 + k.val, by omega⟩ d := by
  blk_point [iblk, V, idx t]

theorem blk3 (c : Dev nD) (t : Fin cfg0.N) (k : Fin 1024) :
    (iblk m c 3 t : Vec Ideal S1x1x1024 .f32) (ix3 0 0 k) = U m c ⟨t.val - 1, by have := lt65 t; omega⟩ k := by
  blk_point [iblk, V, idx t]

/-- The scratch holds the codes and the scales from the first point on. -/
theorem held (c : Dev nD) : ∀ (n : ℕ) (hn : n < cfg0.N), n ≤ 63 →
    (∀ (r : Fin 768) (d : Fin 1536), hcS m c ⟨n, hn⟩ (ix2 r d) = H m c r d) ∧ (∀ (r : Fin 768) (l : Fin 128), hsS m c ⟨n, hn⟩ (ix2 r l) = A m c r)
  | 0, hn, _ => by
    have g1 : ¬0 % 2 = 1 := by decide
    have g2 : ¬(1 ≤ 0 % 65 ∧ 0 % 65 ≤ 63) := by decide
    have g3 : ¬0 % 65 = 64 := by decide
    exact ⟨fun r d => (codes_A m c ⟨0, hn⟩ rfl g1 g2 g3 r d).trans (blk0 m c _ r d),
      fun r l => (scales_A m c ⟨0, hn⟩ rfl g1 g2 g3 r l).trans (blk1 m c _ _ _)⟩
  | n + 1, hn, h => by
    obtain ⟨ih0, ih1⟩ := held c n (by omega) (by omega)
    have e : hcS m c ⟨n + 1, hn⟩ = hcS m c ⟨n, by omega⟩ ∧ hsS m c ⟨n + 1, hn⟩ = hsS m c ⟨n, by omega⟩ := by
      by_cases o : (n + 1) % 2 = 1
      · exact kept_B m c ⟨n + 1, hn⟩ (show ¬(n + 1) % 65 = 0 by omega) o (show 1 ≤ (n + 1) % 65 ∧ (n + 1) % 65 ≤ 63 by omega)
          (show ¬(n + 1) % 65 = 64 by omega) (show ¬(n + 1) % 2 = 0 by omega)
      · exact kept_C m c ⟨n + 1, hn⟩ (show ¬(n + 1) % 65 = 0 by omega) o (show 1 ≤ (n + 1) % 65 ∧ (n + 1) % 65 ≤ 63 by omega)
          (show ¬(n + 1) % 65 = 64 by omega) (show (n + 1) % 2 = 0 by omega)
    rw [e.1, e.2]
    exact ⟨ih0, ih1⟩

/-- Block `a`'s product. -/
def prodOf (c : Dev nD) (a : Fin 64) (r : Fin 768) (k : Fin 1024) : EReal :=
  ∑ d : Fin 1536, H m c r d * W m c ⟨a.val * 1024 + k.val, by omega⟩ d

theorem prod_even (c : Dev nD) (s : Fin cfg0.N) (h : s.val % 2 = 0) (h' : s.val ≤ 63) (r : Fin 768) (k : Fin 1024) :
    zr0 m c s (ix2 r k) = prodOf m c ⟨min s.val 63, by omega⟩ r k := by
  by_cases z : s.val = 0
  · refine (zr0_A m c s (by omega) (by omega) (by omega) (by omega) _ rfl r k).trans (Fin.sum_fin_congr fun d => ?_)
    rw [blk2]
    exact congrArg (· * W m c ⟨min s.val 63 * 1024 + k.val, by omega⟩ d) ((held m c s.val s.isLt h').1 r d)
  · refine (zr0_C m c s (by omega) (by omega) (by omega) (by omega) (by omega) r k).trans (Fin.sum_fin_congr fun d => ?_)
    rw [blk2]
    exact congrArg (· * W m c ⟨min s.val 63 * 1024 + k.val, by omega⟩ d) ((held m c (s.val - 1) (before s).isLt (by omega)).1 r d)

theorem prod_odd (c : Dev nD) (s : Fin cfg0.N) (h : s.val % 2 = 1) (h' : s.val ≤ 63) (r : Fin 768) (k : Fin 1024) :
    zr1 m c s (ix2 r k) = prodOf m c ⟨min s.val 63, by omega⟩ r k := by
  refine (zr1_B m c s (by omega) (by omega) (by omega) (by omega) (by omega) r k).trans (Fin.sum_fin_congr fun d => ?_)
  rw [blk2]
  exact congrArg (· * W m c ⟨min s.val 63 * 1024 + k.val, by omega⟩ d) ((held m c (s.val - 1) (before s).isLt (by omega)).1 r d)

theorem logit_out (c : Dev nD) (t : Fin cfg0.N) (h : 1 ≤ t.val) (r : Fin 768) (k : Fin 1024) :
    (outsAt0 m c t.val t.isLt).1 (ix3 0 r k)
      = (prodOf m c ⟨min (t.val - 1) 63, by omega⟩ r k * (A m c r * (iblk m c 3 t : Vec Ideal S1x1x1024 .f32) (ix3 0 0 k)) : EReal) := by
  have hN := lt65 t
  have hf := (held m c (before t).val (before t).isLt (show t.val - 1 ≤ 63 by omega)).2
  by_cases z : t.val = 64
  · refine (logit_D m c t (by omega) (by omega) (by omega) (by omega) (A m c) hf r k).trans ?_
    rw [prod_odd m c (before t) (show (t.val - 1) % 2 = 1 by omega) (show t.val - 1 ≤ 63 by omega)]
  by_cases o : t.val % 2 = 1
  · refine (logit_B m c t (by omega) (by omega) (by omega) (by omega) (by omega) (A m c) hf r k).trans ?_
    rw [prod_even m c (before t) (show (t.val - 1) % 2 = 0 by omega) (show t.val - 1 ≤ 63 by omega)]
  · refine (logit_C m c t (by omega) (by omega) (by omega) (by omega) (by omega) (A m c) hf r k).trans ?_
    rw [prod_odd m c (before t) (show (t.val - 1) % 2 = 1 by omega) (show t.val - 1 ≤ 63 by omega)]

theorem final4 (c : Dev nD) : (dats m 0 c).arrAt 4 (cfgs 0).N
    = fun j : S64x768x1024.Idx => logitOf (H m c) (A m c) (W m c) (U m c) (j 0) (j 1) (j 2) := by
  refine (dats m 0 c).arrAt_eq_of_covers 4 _ (by decide +kernel) fun t hf y => ?_
  have h1 := flush4 t hf
  have hN := lt65 t
  blk_simp
  rw [after0_4]
  idx_vars y
  obtain rfl : y0 = 0 := Subsingleton.elim _ _
  refine (logit_out m c t h1 y1 y2).trans ?_
  rw [blk3]
  have e : (⟨min (t.val - 1) 63, by omega⟩ : Fin 64) = ⟨t.val - 1, by omega⟩ := Fin.ext (show min (t.val - 1) 63 = t.val - 1 by omega)
  rw [e]
  have g : ∀ (a a' : Fin 64) (r r' : Fin 768) (k k' : Fin 1024), a = a' → r = r' → k = k' →
      logitOf (H m c) (A m c) (W m c) (U m c) a r k = logitOf (H m c) (A m c) (W m c) (U m c) a' r' k' := by
    rintro a _ r _ k _ rfl rfl rfl; rfl
  refine Eq.trans (b := logitOf (H m c) (A m c) (W m c) (U m c) ⟨t.val - 1, by omega⟩ y1 y2) rfl (g _ _ _ _ _ _ (Fin.ext ?_) (Fin.ext ?_) (Fin.ext ?_))
  · blk_simp [idx t]
    exact (Nat.add_zero _).symm
  · blk_simp [idx t]
  · blk_simp [idx t]

end Cert.LogitsIdeal.Value

end
-- ==== Proof.LogitsRef.lean ====
/- The reference's logits at an index. -/
module

public import proofs.«01_k».proof.Proof.Gen.LogitsReferenceIdeal.Value
public import proofs.«01_k».proof.Proof.LogitsSpec
public import Idealize.ShloMosaic.Lib.Pipeline.ValueKit
public import Idealize.ShloMosaic.Lib.Pointwise

@[expose] public section

set_option maxRecDepth 16384

noncomputable section

namespace Cert.LogitsReferenceIdeal.Value

open Cert.LogitsReferenceIdeal Cert.LogitsReferenceIdeal.Gen Idealize.ShloMosaic Idealize.ShloMosaic.TcCoe Idealize.SL.Sem
open Idealize.ShloMosaic.Pipeline (Dat)
open Cert.Logit

variable (m : (ℓ : Loc nD τ sig) → Buf (Elt Ideal) ℓ)

theorem pay_at (H : Vec Ideal S768x1536 .fp8e4m3) (W : Vec Ideal S64x1024x1536 .fp8e4m3) (A : Vec Ideal S1x768x1 .f32) (U : Vec Ideal S64x1x1024 .f32)
    (a : Fin 64) (r : Fin 768) (k : Fin 1024) :
    k0_pay1 H W A U (ix3 a r k) = (∑ d : Fin 1536, (H (ix2 r d) * W (ix3 a k d) : EReal)) * (A (ix3 0 r 0) * U (ix3 a 0 k)) := by
  pointwise [k0_pay1]

theorem scales_at (A : FVec Ideal S6x128 .f32) (r : Fin 768) :
    shapeCast S1x768x1 A shapeCasts_S6x128_S1x768x1 (ix3 0 r 0) = A (ix2 ⟨r.val / 128, by omega⟩ ⟨r.val % 128, by omega⟩) := by
  pointwise
  try blk_ext

theorem rows_at (W : FVec Ideal S65536x1536 .fp8e4m3) (a : Fin 64) (k : Fin 1024) (d : Fin 1536) :
    shapeCast S64x1024x1536 W shapeCasts_S65536x1536_S64x1024x1536 (ix3 a k d) = W (ix2 ⟨a.val * 1024 + k.val, by omega⟩ d) := by
  pointwise
  try blk_ext

/-- The hidden rows' codes. -/
abbrev H (c : Dev nD) (r : Fin 768) (d : Fin 1536) : EReal := (m ((c : Thread nD τ).loc main_arg0) : FVec Ideal S768x1536 .fp8e4m3) (ix2 r d)

/-- Their scales, in six rows of 128. -/
abbrev A (c : Dev nD) (r : Fin 768) : EReal := (m ((c : Thread nD τ).loc main_arg1) : FVec Ideal S6x128 .f32) (ix2 ⟨r.val / 128, by omega⟩ ⟨r.val % 128, by omega⟩)

/-- The head's rows. -/
abbrev W (c : Dev nD) (v : Fin 65536) (d : Fin 1536) : EReal := (m ((c : Thread nD τ).loc main_arg2) : FVec Ideal S65536x1536 .fp8e4m3) (ix2 v d)

/-- The head's scales. -/
abbrev U (c : Dev nD) (a : Fin 64) (k : Fin 1024) : EReal := (m ((c : Thread nD τ).loc main_arg3) : FVec Ideal S64x1x1024 .f32) (ix3 a 0 k)

theorem v0 (c : Dev nD) : V m c main_v0 = shapeCast S1x768x1 (m ((c : Thread nD τ).loc main_arg1) : FVec Ideal S6x128 .f32) shapeCasts_S6x128_S1x768x1 := by
  entry_read
  rfl

theorem v1 (c : Dev nD) : V m c main_v1 = shapeCast S64x1024x1536 (m ((c : Thread nD τ).loc main_arg2) : FVec Ideal S65536x1536 .fp8e4m3) shapeCasts_S65536x1536_S64x1024x1536 := by
  entry_read
  rfl

theorem read0 (c : Dev nD) (A : (b : Ref sig .tc) → Buf (Elt Ideal) ((c : Thread nD τ).loc b)) (r : Fin 768) (d : Fin 1536) :
    (((cfg0.win 0).blk t0_0).view.read (Elt Ideal) (A (Pipeline.arrRef spec0 0)) : FVec Ideal S768x1536 .fp8e4m3) (ix2 r d)
      = (A main_arg0 : FVec Ideal S768x1536 .fp8e4m3) (ix2 r d) := by
  blk_ext
  all_goals rw [show win0_0.index t0_0 _ = 0 from rfl]
  all_goals omega

theorem read1 (c : Dev nD) (A : (b : Ref sig .tc) → Buf (Elt Ideal) ((c : Thread nD τ).loc b)) (r : Fin 768) :
    (((cfg0.win 1).blk t0_0).view.read (Elt Ideal) (A (Pipeline.arrRef spec0 1)) : FVec Ideal S1x768x1 .f32) (ix3 0 r 0)
      = (A main_v0 : FVec Ideal S1x768x1 .f32) (ix3 0 r 0) := by
  blk_ext
  all_goals rw [show win0_1.index t0_0 _ = 0 from rfl]
  all_goals omega

theorem read2 (c : Dev nD) (A : (b : Ref sig .tc) → Buf (Elt Ideal) ((c : Thread nD τ).loc b)) (a : Fin 64) (k : Fin 1024) (d : Fin 1536) :
    (((cfg0.win 2).blk t0_0).view.read (Elt Ideal) (A (Pipeline.arrRef spec0 2)) : FVec Ideal S64x1024x1536 .fp8e4m3) (ix3 a k d)
      = (A main_v1 : FVec Ideal S64x1024x1536 .fp8e4m3) (ix3 a k d) := by
  blk_ext
  all_goals rw [show win0_2.index t0_0 _ = 0 from rfl]
  all_goals omega

theorem read3 (c : Dev nD) (A : (b : Ref sig .tc) → Buf (Elt Ideal) ((c : Thread nD τ).loc b)) (a : Fin 64) (k : Fin 1024) :
    (((cfg0.win 3).blk t0_0).view.read (Elt Ideal) (A (Pipeline.arrRef spec0 3)) : FVec Ideal S64x1x1024 .f32) (ix3 a 0 k)
      = (A main_arg3 : FVec Ideal S64x1x1024 .f32) (ix3 a 0 k) := by
  blk_ext
  all_goals rw [show win0_3.index t0_0 _ = 0 from rfl]
  all_goals omega

theorem blk0 (c : Dev nD) (r : Fin 768) (d : Fin 1536) : (iblk m c 0 t0_0 : FVec Ideal S768x1536 .fp8e4m3) (ix2 r d) = H m c r d :=
  (read0 c (V m c) r d).trans rfl

theorem blk1 (c : Dev nD) (r : Fin 768) : (iblk m c 1 t0_0 : FVec Ideal S1x768x1 .f32) (ix3 0 r 0) = A m c r :=
  (read1 c (V m c) r).trans ((congrFun (v0 m c) (ix3 0 r 0)).trans (scales_at _ r))

theorem blk2 (c : Dev nD) (a : Fin 64) (k : Fin 1024) (d : Fin 1536) :
    (iblk m c 2 t0_0 : FVec Ideal S64x1024x1536 .fp8e4m3) (ix3 a k d) = W m c ⟨a.val * 1024 + k.val, by omega⟩ d :=
  (read2 c (V m c) a k d).trans ((congrFun (v1 m c) (ix3 a k d)).trans (rows_at _ a k d))

theorem blk3 (c : Dev nD) (a : Fin 64) (k : Fin 1024) : (iblk m c 3 t0_0 : FVec Ideal S64x1x1024 .f32) (ix3 a 0 k) = U m c a k :=
  (read3 c (V m c) a k).trans rfl

/-- The reference's result: the products of the rows, times both scales. -/
theorem final4 (c : Dev nD) : (dats m 0 c).arrAt 4 (cfgs 0).N = fun j : S64x768x1024.Idx => logitOf (H m c) (A m c) (W m c) (U m c) (j 0) (j 1) (j 2) := by
  refine (dats m 0 c).arrAt_eq_of_after_last 4 t0_0 (by decide +kernel) _ fun j => ?_
  rw [after0_4]
  frame_out
  idx_vars j
  refine (pay_at _ _ _ _ j0 j1 j2).trans ?_
  simp only [blk0, blk1, blk2, blk3]
  unfold logitOf
  rfl

end Cert.LogitsReferenceIdeal.Value

end
-- ==== Proof.lean ====
/- The certificate's claims: the frames of the three programs, the idealization, and that the kernel's three
   results equal the reference's over the reals; and the same of the kernel that computes the logits. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Frame
public import proofs.«01_k».proof.Proof.Gen.KernelIdeal.Value
public import proofs.«01_k».proof.Proof.Gen.ReferenceIdeal.Value
public import proofs.«01_k».proof.Proof.Gen.Logits
public import proofs.«01_k».proof.Proof.Gen.Logits.Skeleton
public import proofs.«01_k».proof.Proof.Gen.Logits.Launch
public import proofs.«01_k».proof.Proof.Gen.Logits.Points
public import proofs.«01_k».proof.Proof.Gen.Logits.Frame
public import proofs.«01_k».proof.Proof.Gen.LogitsIdeal
public import proofs.«01_k».proof.Proof.Gen.LogitsIdeal.Skeleton
public import proofs.«01_k».proof.Proof.Gen.LogitsIdeal.Launch
public import proofs.«01_k».proof.Proof.Gen.LogitsIdeal.Points
public import proofs.«01_k».proof.Proof.Gen.LogitsIdeal.Frame
public import proofs.«01_k».proof.Proof.Gen.LogitsReferenceIdeal
public import proofs.«01_k».proof.Proof.Gen.LogitsReferenceIdeal.Skeleton
public import proofs.«01_k».proof.Proof.Gen.LogitsReferenceIdeal.Launch
public import proofs.«01_k».proof.Proof.Gen.LogitsReferenceIdeal.Points
public import proofs.«01_k».proof.Proof.Gen.LogitsReferenceIdeal.Frame
public import proofs.«01_k».proof.Proof.Gen.LogitsIdeal.Value
public import proofs.«01_k».proof.Proof.Gen.LogitsReferenceIdeal.Value
public import proofs.«01_k».proof.Proof.KernelValue
public import proofs.«01_k».proof.Proof.RefValue
public import proofs.«01_k».proof.Proof.LogitsValue
public import proofs.«01_k».proof.Proof.LogitsRef
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

section Agree

variable (m : (ℓ : Loc KernelIdeal.nD KernelIdeal.τ KernelIdeal.sig) → Buf (Elt Ideal) ℓ)
variable (m' : (ℓ : Loc ReferenceIdeal.nD ReferenceIdeal.τ ReferenceIdeal.sig) → Buf (Elt Ideal) ℓ)

theorem agree_Z (c : Dev KernelIdeal.nD) (h : m' ((c.tc : Thread ReferenceIdeal.nD ReferenceIdeal.τ).loc ReferenceIdeal.main_arg0)
    = m ((c.tc : Thread KernelIdeal.nD KernelIdeal.τ).loc KernelIdeal.main_arg0)) :
    ReferenceIdeal.Value.Z m' c = KernelIdeal.Value.Z m c := by
  funext a r k
  exact congrFun h (ix3 a r k)

theorem agree_W (c : Dev KernelIdeal.nD) (h : m' ((c.tc : Thread ReferenceIdeal.nD ReferenceIdeal.τ).loc ReferenceIdeal.main_arg1)
    = m ((c.tc : Thread KernelIdeal.nD KernelIdeal.τ).loc KernelIdeal.main_arg1)) :
    ReferenceIdeal.Value.W m' c = KernelIdeal.Value.W m c := by
  funext v d
  exact congrFun h (ix2 v d)

theorem agree_U (c : Dev KernelIdeal.nD) (h : m' ((c.tc : Thread ReferenceIdeal.nD ReferenceIdeal.τ).loc ReferenceIdeal.main_arg2)
    = m ((c.tc : Thread KernelIdeal.nD KernelIdeal.τ).loc KernelIdeal.main_arg2)) :
    ReferenceIdeal.Value.U m' c = KernelIdeal.Value.U m c := by
  funext a k
  exact congrFun h (ix3 a 0 k)

theorem agree_H (c : Dev KernelIdeal.nD) (h : m' ((c.tc : Thread ReferenceIdeal.nD ReferenceIdeal.τ).loc ReferenceIdeal.main_arg3)
    = m ((c.tc : Thread KernelIdeal.nD KernelIdeal.τ).loc KernelIdeal.main_arg3)) :
    ReferenceIdeal.Value.H m' c = KernelIdeal.Value.H m c := by
  funext r d
  exact congrFun h (ix2 r d)

end Agree

/-- The kernel's head gradient, hidden gradient and scales are the reference's. -/
theorem algebraic : Cert.algebraic_KernelIdeal_ReferenceIdeal := by
  intro m g m' g' hpre hagree
  refine ⟨fun c => (KernelIdeal.Gen.dats m 0 c).arrAt 4 KernelIdeal.cfg0.N, fun c => (KernelIdeal.Gen.dats m 0 c).arrAt 5 KernelIdeal.cfg0.N,
    fun c => (KernelIdeal.Gen.dats m 0 c).arrAt 6 KernelIdeal.cfg0.N, KernelIdeal.Value.run_blocks m g, ?_⟩
  refine (θ_run _ _ _).mono (fun r h c => ?_) (ReferenceIdeal.Value.run_blocks m' g')
  obtain ⟨h6, h7, h8, hk⟩ := h c
  obtain ⟨a0, a1, a2, a3⟩ := hagree c
  refine ⟨h6.trans ?_, h7.trans ?_, h8.trans ?_, hk⟩
  · refine (ReferenceIdeal.Value.final6 m' c).trans (Eq.trans ?_ (KernelIdeal.Value.final4 m c).symm)
    rw [agree_Z m m' c a0, agree_H m m' c a3]
  · refine (ReferenceIdeal.Value.final7 m' c).trans (Eq.trans ?_ (KernelIdeal.Value.final5 m c).symm)
    rw [agree_Z m m' c a0, agree_W m m' c a1, agree_U m m' c a2]
  · refine (ReferenceIdeal.Value.final8 m' c).trans (Eq.trans ?_ (KernelIdeal.Value.final6 m c).symm)
    rw [agree_Z m m' c a0]

section AgreeLogits

variable (m : (ℓ : Loc LogitsIdeal.nD LogitsIdeal.τ LogitsIdeal.sig) → Buf (Elt Ideal) ℓ)
variable (m' : (ℓ : Loc LogitsReferenceIdeal.nD LogitsReferenceIdeal.τ LogitsReferenceIdeal.sig) → Buf (Elt Ideal) ℓ)

theorem agree_codes (c : Dev LogitsIdeal.nD) (h : m' ((c.tc : Thread LogitsReferenceIdeal.nD LogitsReferenceIdeal.τ).loc LogitsReferenceIdeal.main_arg0)
    = m ((c.tc : Thread LogitsIdeal.nD LogitsIdeal.τ).loc LogitsIdeal.main_arg0)) :
    LogitsReferenceIdeal.Value.H m' c = LogitsIdeal.Value.H m c := by
  funext r d
  exact congrFun h (ix2 r d)

theorem agree_scales (c : Dev LogitsIdeal.nD) (h : m' ((c.tc : Thread LogitsReferenceIdeal.nD LogitsReferenceIdeal.τ).loc LogitsReferenceIdeal.main_arg1)
    = m ((c.tc : Thread LogitsIdeal.nD LogitsIdeal.τ).loc LogitsIdeal.main_arg1)) :
    LogitsReferenceIdeal.Value.A m' c = LogitsIdeal.Value.A m c := by
  funext r
  exact congrFun h (ix2 ⟨r.val / 128, by omega⟩ ⟨r.val % 128, by omega⟩)

theorem agree_rows (c : Dev LogitsIdeal.nD) (h : m' ((c.tc : Thread LogitsReferenceIdeal.nD LogitsReferenceIdeal.τ).loc LogitsReferenceIdeal.main_arg2)
    = m ((c.tc : Thread LogitsIdeal.nD LogitsIdeal.τ).loc LogitsIdeal.main_arg2)) :
    LogitsReferenceIdeal.Value.W m' c = LogitsIdeal.Value.W m c := by
  funext v d
  exact congrFun h (ix2 v d)

theorem agree_rowScales (c : Dev LogitsIdeal.nD) (h : m' ((c.tc : Thread LogitsReferenceIdeal.nD LogitsReferenceIdeal.τ).loc LogitsReferenceIdeal.main_arg3)
    = m ((c.tc : Thread LogitsIdeal.nD LogitsIdeal.τ).loc LogitsIdeal.main_arg3)) :
    LogitsReferenceIdeal.Value.U m' c = LogitsIdeal.Value.U m c := by
  funext a k
  exact congrFun h (ix3 a 0 k)

end AgreeLogits

/-- The kernel's logits are the reference's. -/
theorem algebraic_logits : Cert.algebraic_LogitsIdeal_LogitsReferenceIdeal := by
  intro m g m' g' hpre hagree
  refine ⟨fun c => (LogitsIdeal.Gen.dats m 0 c).arrAt 4 LogitsIdeal.cfg0.N, LogitsIdeal.Value.run_blocks m g, ?_⟩
  refine (θ_run _ _ _).mono (fun r h c => ?_) (LogitsReferenceIdeal.Value.run_blocks m' g')
  obtain ⟨h4, hk⟩ := h c
  obtain ⟨a0, a1, a2, a3⟩ := hagree c
  refine ⟨h4.trans ?_, hk⟩
  refine (LogitsReferenceIdeal.Value.final4 m' c).trans (Eq.trans ?_ (LogitsIdeal.Value.final4 m c).symm)
  rw [agree_codes m m' c a0, agree_scales m m' c a1, agree_rows m m' c a2, agree_rowScales m m' c a3]

theorem claim : Cert.Claim := ⟨Cert.Kernel.Gen.facts, Cert.KernelIdeal.Gen.facts, Cert.ReferenceIdeal.Gen.facts,
  Cert.Logits.Gen.facts, Cert.LogitsIdeal.Gen.facts, Cert.LogitsReferenceIdeal.Gen.facts,
  fun m g _ => Cert.Kernel.Gen.frame m g, fun m g _ => Cert.KernelIdeal.Gen.frame m g,
  fun m g _ => Cert.ReferenceIdeal.Gen.frame m g, fun m g _ => Cert.Logits.Gen.frame m g, fun m g _ => Cert.LogitsIdeal.Gen.frame m g,
  fun m g _ => Cert.LogitsReferenceIdeal.Gen.frame m g, trivial, algebraic, trivial, algebraic_logits⟩

end Cert.Proof

end
